-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S2x4x64x512 : Shape := ⟨4, ![2, 4, 64, 512]⟩
abbrev S4x64x512 : Shape := ⟨3, ![4, 64, 512]⟩
abbrev S4 : Shape := ⟨1, ![4]⟩
abbrev S2x4 : Shape := ⟨2, ![2, 4]⟩
abbrev S_ : Shape := ⟨0, ![]⟩
abbrev S64x64 : Shape := ⟨2, ![64, 64]⟩
abbrev S64x512 : Shape := ⟨2, ![64, 512]⟩
abbrev S1x64x512 : Shape := ⟨3, ![1, 64, 512]⟩
abbrev S1 : Shape := ⟨1, ![1]⟩
abbrev S1x1 : Shape := ⟨2, ![1, 1]⟩
abbrev S1x1x64x512 : Shape := ⟨4, ![1, 1, 64, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x64, .bf16⟩
  | .hbm, ⟨1, _⟩ => ⟨S64x2048, .bf16⟩
  | .hbm, ⟨2, _⟩ => ⟨S64x2048, .f32⟩
  | .local _ .vmem, ⟨0, _⟩ => ⟨S2048x64, .bf16⟩
  | .local _ .vmem, ⟨1, _⟩ => ⟨S64x2048, .bf16⟩
  | .local _ .vmem, ⟨2, _⟩ => ⟨S64x2048, .f32⟩
  | .local _ .vmem, ⟨3, _⟩ => ⟨S2x4x64x512, .bf16⟩
  | .local _ .vmem, ⟨4, _⟩ => ⟨S4x64x512, .bf16⟩
  | .local _ .vmem, ⟨5, _⟩ => ⟨S2x4x64x512, .bf16⟩
  | .local _ .vmem, ⟨6, _⟩ => ⟨S4x64x512, .bf16⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 17 27 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 16

abbrev nD : Nat := 32
abbrev τ : Topo := Topo.v7x

variable {F : FTy → Type} [FloatOps F]

abbrev grid0 : Pipeline.Grid := .none

def k0_dev1 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_39 : BitVec 32 := 1#32
  let v60 : BitVec 32 := Scalar.muli v38 c1_i32_39
  let v61 : BitVec 32 := Scalar.addi c0_i32_40 v60
  v61.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_42 : BitVec 32 := 1#32
  let v62 : BitVec 32 := Scalar.muli v58 c1_i32_42
  let v63 : BitVec 32 := Scalar.addi c0_i32_43 v62
  v63.toNat
def k0_off1 (d0 : Dev nD) (c_m16_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let v64 : BitVec 32 := Scalar.addi v17 c_m16_i32
  let c64_i32 : BitVec 32 := 64#32
  let v65 : BitVec 32 := Scalar.addi v64 c64_i32
  let c32_i32_45 : BitVec 32 := 32#32
  let v66 : BitVec 32 := Scalar.remsi v65 c32_i32_45
  let c16_i32_46 : BitVec 32 := 16#32
  let v67 : BitVec 1 := Scalar.cmpi .slt v66 c16_i32_46
  let c31_i32_47 : BitVec 32 := 31#32
  let v68 : BitVec 32 := Scalar.subi c31_i32_47 v66
  let v69 : BitVec 32 := Scalar.select v67 v66 v68
  let c4_i32_48 : BitVec 32 := 4#32
  let v70 : BitVec 32 := Scalar.divsi v69 c4_i32_48
  let c8_i32_59 : BitVec 32 := 8#32
  let v83 : BitVec 32 := Scalar.muli v70 c8_i32_59
  let c2_i32_55 : BitVec 32 := 2#32
  let c2_i32_50 : BitVec 32 := 2#32
  let v72 : BitVec 32 := Scalar.remsi v70 c2_i32_50
  let c0_i32_51 : BitVec 32 := 0#32
  let v73 : BitVec 1 := Scalar.cmpi .eq v72 c0_i32_51
  let c4_i32_49 : BitVec 32 := 4#32
  let v71 : BitVec 32 := Scalar.remsi v69 c4_i32_49
  let c3_i32_52 : BitVec 32 := 3#32
  let v74 : BitVec 32 := Scalar.subi c3_i32_52 v71
  let v75 : BitVec 32 := Scalar.select v73 v71 v74
  let v77 : BitVec 32 := Scalar.muli c2_i32_55 v75
  let c2_i32_56 : BitVec 32 := 2#32
  let v78 : BitVec 32 := Scalar.remsi v75 c2_i32_56
  let c0_i32_57 : BitVec 32 := 0#32
  let v79 : BitVec 1 := Scalar.cmpi .eq v78 c0_i32_57
  let c0_i32_53 : BitVec 32 := 0#32
  let c1_i32_54 : BitVec 32 := 1#32
  let v76 : BitVec 32 := Scalar.select v67 c0_i32_53 c1_i32_54
  let c1_i32_58 : BitVec 32 := 1#32
  let v80 : BitVec 32 := Scalar.subi c1_i32_58 v76
  let v81 : BitVec 32 := Scalar.select v79 v76 v80
  let v82 : BitVec 32 := Scalar.addi v77 v81
  let v84 : BitVec 32 := Scalar.addi v83 v82
  let c64_i32_60 : BitVec 32 := 64#32
  let v85 : BitVec 32 := Scalar.muli v84 c64_i32_60
  let v86 : Index := Scalar.indexCast v85
  let c0 : Index := 0#32
  ![v86.toNat, 0]
def k0_dev3 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_96 : BitVec 32 := 1#32
  let v130 : BitVec 32 := Scalar.muli v58 c1_i32_96
  let v131 : BitVec 32 := Scalar.addi c0_i32_97 v130
  v131.toNat
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_108 : BitVec 32 := 1#32
  let v140 : BitVec 32 := Scalar.muli v38 c1_i32_108
  let v141 : BitVec 32 := Scalar.addi c0_i32_109 v140
  v141.toNat
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_125 : BitVec 32 := 1#32
  let v160 : BitVec 32 := Scalar.muli v58 c1_i32_125
  let v161 : BitVec 32 := Scalar.addi c0_i32_126 v160
  v161.toNat
def k0_dev6 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_137 : BitVec 32 := 1#32
  let v170 : BitVec 32 := Scalar.muli v38 c1_i32_137
  let v171 : BitVec 32 := Scalar.addi c0_i32_138 v170
  v171.toNat
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_154 : BitVec 32 := 1#32
  let v190 : BitVec 32 := Scalar.muli v58 c1_i32_154
  let v191 : BitVec 32 := Scalar.addi c0_i32_155 v190
  v191.toNat
def k0_dev8 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_166 : BitVec 32 := 1#32
  let v200 : BitVec 32 := Scalar.muli v38 c1_i32_166
  let v201 : BitVec 32 := Scalar.addi c0_i32_167 v200
  v201.toNat
def k0_dev9 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_183 : BitVec 32 := 1#32
  let v220 : BitVec 32 := Scalar.muli v58 c1_i32_183
  let v221 : BitVec 32 := Scalar.addi c0_i32_184 v220
  v221.toNat
def k0_dev10 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_195 : BitVec 32 := 1#32
  let v230 : BitVec 32 := Scalar.muli v38 c1_i32_195
  let v231 : BitVec 32 := Scalar.addi c0_i32_196 v230
  v231.toNat
def k0_dev11 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_279 : BitVec 32 := 1#32
  let v319 : BitVec 32 := Scalar.muli v58 c1_i32_279
  let v320 : BitVec 32 := Scalar.addi c0_i32_280 v319
  v320.toNat
def k0_dev12 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_288 : BitVec 32 := 1#32
  let v331 : BitVec 32 := Scalar.muli v38 c1_i32_288
  let v332 : BitVec 32 := Scalar.addi c0_i32_289 v331
  v332.toNat
def k0_dev13 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_326 : BitVec 32 := 1#32
  let v356 : BitVec 32 := Scalar.muli v38 c1_i32_326
  let v357 : BitVec 32 := Scalar.addi c0_i32_327 v356
  v357.toNat
def k0_dev14 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_335 : BitVec 32 := 1#32
  let v368 : BitVec 32 := Scalar.muli v58 c1_i32_335
  let v369 : BitVec 32 := Scalar.addi c0_i32_336 v368
  v369.toNat
def k0_dev15 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_373 : BitVec 32 := 1#32
  let v393 : BitVec 32 := Scalar.muli v58 c1_i32_373
  let v394 : BitVec 32 := Scalar.addi c0_i32_374 v393
  v394.toNat
def k0_dev16 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_382 : BitVec 32 := 1#32
  let v405 : BitVec 32 := Scalar.muli v38 c1_i32_382
  let v406 : BitVec 32 := Scalar.addi c0_i32_383 v405
  v406.toNat
def k0_dev17 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_420 : BitVec 32 := 1#32
  let v430 : BitVec 32 := Scalar.muli v38 c1_i32_420
  let v431 : BitVec 32 := Scalar.addi c0_i32_421 v430
  v431.toNat
def k0_dev18 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_429 : BitVec 32 := 1#32
  let v442 : BitVec 32 := Scalar.muli v58 c1_i32_429
  let v443 : BitVec 32 := Scalar.addi c0_i32_430 v442
  v443.toNat
def k0_dev19 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_467 : BitVec 32 := 1#32
  let v467 : BitVec 32 := Scalar.muli v58 c1_i32_467
  let v468 : BitVec 32 := Scalar.addi c0_i32_468 v467
  v468.toNat
def k0_dev20 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_476 : BitVec 32 := 1#32
  let v479 : BitVec 32 := Scalar.muli v38 c1_i32_476
  let v480 : BitVec 32 := Scalar.addi c0_i32_477 v479
  v480.toNat
def k0_dev21 (d0 : Dev nD) : Nat :=
  let c0_i32_515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_514 : BitVec 32 := 1#32
  let v504 : BitVec 32 := Scalar.muli v38 c1_i32_514
  let v505 : BitVec 32 := Scalar.addi c0_i32_515 v504
  v505.toNat
def k0_dev22 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_523 : BitVec 32 := 1#32
  let v516 : BitVec 32 := Scalar.muli v58 c1_i32_523
  let v517 : BitVec 32 := Scalar.addi c0_i32_524 v516
  v517.toNat
def k0_dev23 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_561 : BitVec 32 := 1#32
  let v541 : BitVec 32 := Scalar.muli v58 c1_i32_561
  let v542 : BitVec 32 := Scalar.addi c0_i32_562 v541
  v542.toNat
def k0_dev24 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_570 : BitVec 32 := 1#32
  let v553 : BitVec 32 := Scalar.muli v38 c1_i32_570
  let v554 : BitVec 32 := Scalar.addi c0_i32_571 v553
  v554.toNat
def k0_dev25 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_608 : BitVec 32 := 1#32
  let v578 : BitVec 32 := Scalar.muli v38 c1_i32_608
  let v579 : BitVec 32 := Scalar.addi c0_i32_609 v578
  v579.toNat
def k0_dev26 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_617 : BitVec 32 := 1#32
  let v590 : BitVec 32 := Scalar.muli v58 c1_i32_617
  let v591 : BitVec 32 := Scalar.addi c0_i32_618 v590
  v591.toNat
def k0_dev27 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_701 : BitVec 32 := 1#32
  let v673 : BitVec 32 := Scalar.muli v58 c1_i32_701
  let v674 : BitVec 32 := Scalar.addi c0_i32_702 v673
  v674.toNat
def k0_dev28 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_710 : BitVec 32 := 1#32
  let v685 : BitVec 32 := Scalar.muli v38 c1_i32_710
  let v686 : BitVec 32 := Scalar.addi c0_i32_711 v685
  v686.toNat
def k0_dev29 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_752 : BitVec 32 := 1#32
  let v712 : BitVec 32 := Scalar.muli v38 c1_i32_752
  let v713 : BitVec 32 := Scalar.addi c0_i32_753 v712
  v713.toNat
def k0_dev30 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_761 : BitVec 32 := 1#32
  let v724 : BitVec 32 := Scalar.muli v58 c1_i32_761
  let v725 : BitVec 32 := Scalar.addi c0_i32_762 v724
  v725.toNat
def k0_dev31 (d0 : Dev nD) : Nat :=
  let c0_i32_804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_803 : BitVec 32 := 1#32
  let v751 : BitVec 32 := Scalar.muli v58 c1_i32_803
  let v752 : BitVec 32 := Scalar.addi c0_i32_804 v751
  v752.toNat
def k0_dev32 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_812 : BitVec 32 := 1#32
  let v763 : BitVec 32 := Scalar.muli v38 c1_i32_812
  let v764 : BitVec 32 := Scalar.addi c0_i32_813 v763
  v764.toNat
def k0_dev33 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_854 : BitVec 32 := 1#32
  let v790 : BitVec 32 := Scalar.muli v38 c1_i32_854
  let v791 : BitVec 32 := Scalar.addi c0_i32_855 v790
  v791.toNat
def k0_dev34 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_863 : BitVec 32 := 1#32
  let v802 : BitVec 32 := Scalar.muli v58 c1_i32_863
  let v803 : BitVec 32 := Scalar.addi c0_i32_864 v802
  v803.toNat
def k0_dev35 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_905 : BitVec 32 := 1#32
  let v829 : BitVec 32 := Scalar.muli v58 c1_i32_905
  let v830 : BitVec 32 := Scalar.addi c0_i32_906 v829
  v830.toNat
def k0_dev36 (d0 : Dev nD) : Nat :=
  let c0_i32_915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_914 : BitVec 32 := 1#32
  let v841 : BitVec 32 := Scalar.muli v38 c1_i32_914
  let v842 : BitVec 32 := Scalar.addi c0_i32_915 v841
  v842.toNat
def k0_dev37 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_956 : BitVec 32 := 1#32
  let v868 : BitVec 32 := Scalar.muli v38 c1_i32_956
  let v869 : BitVec 32 := Scalar.addi c0_i32_957 v868
  v869.toNat
def k0_dev38 (d0 : Dev nD) : Nat :=
  let c0_i32_966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_965 : BitVec 32 := 1#32
  let v880 : BitVec 32 := Scalar.muli v58 c1_i32_965
  let v881 : BitVec 32 := Scalar.addi c0_i32_966 v880
  v881.toNat
def k0_dev39 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1007 : BitVec 32 := 1#32
  let v907 : BitVec 32 := Scalar.muli v58 c1_i32_1007
  let v908 : BitVec 32 := Scalar.addi c0_i32_1008 v907
  v908.toNat
def k0_dev40 (d0 : Dev nD) : Nat :=
  let c0_i32_1017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1016 : BitVec 32 := 1#32
  let v919 : BitVec 32 := Scalar.muli v38 c1_i32_1016
  let v920 : BitVec 32 := Scalar.addi c0_i32_1017 v919
  v920.toNat
def k0_dev41 (d0 : Dev nD) : Nat :=
  let c0_i32_1059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1058 : BitVec 32 := 1#32
  let v946 : BitVec 32 := Scalar.muli v38 c1_i32_1058
  let v947 : BitVec 32 := Scalar.addi c0_i32_1059 v946
  v947.toNat
def k0_dev42 (d0 : Dev nD) : Nat :=
  let c0_i32_1068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1067 : BitVec 32 := 1#32
  let v958 : BitVec 32 := Scalar.muli v58 c1_i32_1067
  let v959 : BitVec 32 := Scalar.addi c0_i32_1068 v958
  v959.toNat
def k0_dev43 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1151 : BitVec 32 := 1#32
  let v1041 : BitVec 32 := Scalar.muli v58 c1_i32_1151
  let v1042 : BitVec 32 := Scalar.addi c0_i32_1152 v1041
  v1042.toNat
def k0_dev44 (d0 : Dev nD) : Nat :=
  let c0_i32_1161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1160 : BitVec 32 := 1#32
  let v1053 : BitVec 32 := Scalar.muli v38 c1_i32_1160
  let v1054 : BitVec 32 := Scalar.addi c0_i32_1161 v1053
  v1054.toNat
def k0_dev45 (d0 : Dev nD) : Nat :=
  let c0_i32_1203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1202 : BitVec 32 := 1#32
  let v1080 : BitVec 32 := Scalar.muli v38 c1_i32_1202
  let v1081 : BitVec 32 := Scalar.addi c0_i32_1203 v1080
  v1081.toNat
def k0_dev46 (d0 : Dev nD) : Nat :=
  let c0_i32_1212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1211 : BitVec 32 := 1#32
  let v1092 : BitVec 32 := Scalar.muli v58 c1_i32_1211
  let v1093 : BitVec 32 := Scalar.addi c0_i32_1212 v1092
  v1093.toNat
def k0_dev47 (d0 : Dev nD) : Nat :=
  let c0_i32_1254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1253 : BitVec 32 := 1#32
  let v1119 : BitVec 32 := Scalar.muli v58 c1_i32_1253
  let v1120 : BitVec 32 := Scalar.addi c0_i32_1254 v1119
  v1120.toNat
def k0_dev48 (d0 : Dev nD) : Nat :=
  let c0_i32_1263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1262 : BitVec 32 := 1#32
  let v1131 : BitVec 32 := Scalar.muli v38 c1_i32_1262
  let v1132 : BitVec 32 := Scalar.addi c0_i32_1263 v1131
  v1132.toNat
def k0_dev49 (d0 : Dev nD) : Nat :=
  let c0_i32_1305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1304 : BitVec 32 := 1#32
  let v1158 : BitVec 32 := Scalar.muli v38 c1_i32_1304
  let v1159 : BitVec 32 := Scalar.addi c0_i32_1305 v1158
  v1159.toNat
def k0_dev50 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1313 : BitVec 32 := 1#32
  let v1170 : BitVec 32 := Scalar.muli v58 c1_i32_1313
  let v1171 : BitVec 32 := Scalar.addi c0_i32_1314 v1170
  v1171.toNat
def k0_dev51 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1355 : BitVec 32 := 1#32
  let v1197 : BitVec 32 := Scalar.muli v58 c1_i32_1355
  let v1198 : BitVec 32 := Scalar.addi c0_i32_1356 v1197
  v1198.toNat
def k0_dev52 (d0 : Dev nD) : Nat :=
  let c0_i32_1365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1364 : BitVec 32 := 1#32
  let v1209 : BitVec 32 := Scalar.muli v38 c1_i32_1364
  let v1210 : BitVec 32 := Scalar.addi c0_i32_1365 v1209
  v1210.toNat
def k0_dev53 (d0 : Dev nD) : Nat :=
  let c0_i32_1407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1406 : BitVec 32 := 1#32
  let v1236 : BitVec 32 := Scalar.muli v38 c1_i32_1406
  let v1237 : BitVec 32 := Scalar.addi c0_i32_1407 v1236
  v1237.toNat
def k0_dev54 (d0 : Dev nD) : Nat :=
  let c0_i32_1416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1415 : BitVec 32 := 1#32
  let v1248 : BitVec 32 := Scalar.muli v58 c1_i32_1415
  let v1249 : BitVec 32 := Scalar.addi c0_i32_1416 v1248
  v1249.toNat
def k0_dev55 (d0 : Dev nD) : Nat :=
  let c0_i32_1458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1457 : BitVec 32 := 1#32
  let v1275 : BitVec 32 := Scalar.muli v58 c1_i32_1457
  let v1276 : BitVec 32 := Scalar.addi c0_i32_1458 v1275
  v1276.toNat
def k0_dev56 (d0 : Dev nD) : Nat :=
  let c0_i32_1467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1466 : BitVec 32 := 1#32
  let v1287 : BitVec 32 := Scalar.muli v38 c1_i32_1466
  let v1288 : BitVec 32 := Scalar.addi c0_i32_1467 v1287
  v1288.toNat
def k0_dev57 (d0 : Dev nD) : Nat :=
  let c0_i32_1509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1508 : BitVec 32 := 1#32
  let v1314 : BitVec 32 := Scalar.muli v38 c1_i32_1508
  let v1315 : BitVec 32 := Scalar.addi c0_i32_1509 v1314
  v1315.toNat
def k0_dev58 (d0 : Dev nD) : Nat :=
  let c0_i32_1518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1517 : BitVec 32 := 1#32
  let v1326 : BitVec 32 := Scalar.muli v58 c1_i32_1517
  let v1327 : BitVec 32 := Scalar.addi c0_i32_1518 v1326
  v1327.toNat
def k0_dev59 (d0 : Dev nD) : Nat :=
  let c0_i32_1602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1601 : BitVec 32 := 1#32
  let v1409 : BitVec 32 := Scalar.muli v58 c1_i32_1601
  let v1410 : BitVec 32 := Scalar.addi c0_i32_1602 v1409
  v1410.toNat
def k0_dev60 (d0 : Dev nD) : Nat :=
  let c0_i32_1611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1610 : BitVec 32 := 1#32
  let v1421 : BitVec 32 := Scalar.muli v38 c1_i32_1610
  let v1422 : BitVec 32 := Scalar.addi c0_i32_1611 v1421
  v1422.toNat
def k0_dev61 (d0 : Dev nD) : Nat :=
  let c0_i32_1653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1652 : BitVec 32 := 1#32
  let v1448 : BitVec 32 := Scalar.muli v38 c1_i32_1652
  let v1449 : BitVec 32 := Scalar.addi c0_i32_1653 v1448
  v1449.toNat
def k0_dev62 (d0 : Dev nD) : Nat :=
  let c0_i32_1662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1661 : BitVec 32 := 1#32
  let v1460 : BitVec 32 := Scalar.muli v58 c1_i32_1661
  let v1461 : BitVec 32 := Scalar.addi c0_i32_1662 v1460
  v1461.toNat
def k0_dev63 (d0 : Dev nD) : Nat :=
  let c0_i32_1704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1703 : BitVec 32 := 1#32
  let v1487 : BitVec 32 := Scalar.muli v58 c1_i32_1703
  let v1488 : BitVec 32 := Scalar.addi c0_i32_1704 v1487
  v1488.toNat
def k0_dev64 (d0 : Dev nD) : Nat :=
  let c0_i32_1713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1712 : BitVec 32 := 1#32
  let v1499 : BitVec 32 := Scalar.muli v38 c1_i32_1712
  let v1500 : BitVec 32 := Scalar.addi c0_i32_1713 v1499
  v1500.toNat
def k0_dev65 (d0 : Dev nD) : Nat :=
  let c0_i32_1755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1754 : BitVec 32 := 1#32
  let v1526 : BitVec 32 := Scalar.muli v38 c1_i32_1754
  let v1527 : BitVec 32 := Scalar.addi c0_i32_1755 v1526
  v1527.toNat
def k0_dev66 (d0 : Dev nD) : Nat :=
  let c0_i32_1764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1763 : BitVec 32 := 1#32
  let v1538 : BitVec 32 := Scalar.muli v58 c1_i32_1763
  let v1539 : BitVec 32 := Scalar.addi c0_i32_1764 v1538
  v1539.toNat
def k0_dev67 (d0 : Dev nD) : Nat :=
  let c0_i32_1806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1805 : BitVec 32 := 1#32
  let v1565 : BitVec 32 := Scalar.muli v58 c1_i32_1805
  let v1566 : BitVec 32 := Scalar.addi c0_i32_1806 v1565
  v1566.toNat
def k0_dev68 (d0 : Dev nD) : Nat :=
  let c0_i32_1815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1814 : BitVec 32 := 1#32
  let v1577 : BitVec 32 := Scalar.muli v38 c1_i32_1814
  let v1578 : BitVec 32 := Scalar.addi c0_i32_1815 v1577
  v1578.toNat
def k0_dev69 (d0 : Dev nD) : Nat :=
  let c0_i32_1857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1856 : BitVec 32 := 1#32
  let v1604 : BitVec 32 := Scalar.muli v38 c1_i32_1856
  let v1605 : BitVec 32 := Scalar.addi c0_i32_1857 v1604
  v1605.toNat
def k0_dev70 (d0 : Dev nD) : Nat :=
  let c0_i32_1866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1865 : BitVec 32 := 1#32
  let v1616 : BitVec 32 := Scalar.muli v58 c1_i32_1865
  let v1617 : BitVec 32 := Scalar.addi c0_i32_1866 v1616
  v1617.toNat
def k0_dev71 (d0 : Dev nD) : Nat :=
  let c0_i32_1908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1907 : BitVec 32 := 1#32
  let v1643 : BitVec 32 := Scalar.muli v58 c1_i32_1907
  let v1644 : BitVec 32 := Scalar.addi c0_i32_1908 v1643
  v1644.toNat
def k0_dev72 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1916 : BitVec 32 := 1#32
  let v1655 : BitVec 32 := Scalar.muli v38 c1_i32_1916
  let v1656 : BitVec 32 := Scalar.addi c0_i32_1917 v1655
  v1656.toNat
def k0_dev73 (d0 : Dev nD) : Nat :=
  let c0_i32_1959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_1958 : BitVec 32 := 1#32
  let v1682 : BitVec 32 := Scalar.muli v38 c1_i32_1958
  let v1683 : BitVec 32 := Scalar.addi c0_i32_1959 v1682
  v1683.toNat
def k0_dev74 (d0 : Dev nD) : Nat :=
  let c0_i32_1968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_1967 : BitVec 32 := 1#32
  let v1694 : BitVec 32 := Scalar.muli v58 c1_i32_1967
  let v1695 : BitVec 32 := Scalar.addi c0_i32_1968 v1694
  v1695.toNat
def k0_dev75 (d0 : Dev nD) : Nat :=
  let c0_i32_2052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2051 : BitVec 32 := 1#32
  let v1777 : BitVec 32 := Scalar.muli v58 c1_i32_2051
  let v1778 : BitVec 32 := Scalar.addi c0_i32_2052 v1777
  v1778.toNat
def k0_dev76 (d0 : Dev nD) : Nat :=
  let c0_i32_2061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2060 : BitVec 32 := 1#32
  let v1789 : BitVec 32 := Scalar.muli v38 c1_i32_2060
  let v1790 : BitVec 32 := Scalar.addi c0_i32_2061 v1789
  v1790.toNat
def k0_dev77 (d0 : Dev nD) : Nat :=
  let c0_i32_2103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2102 : BitVec 32 := 1#32
  let v1816 : BitVec 32 := Scalar.muli v38 c1_i32_2102
  let v1817 : BitVec 32 := Scalar.addi c0_i32_2103 v1816
  v1817.toNat
def k0_dev78 (d0 : Dev nD) : Nat :=
  let c0_i32_2112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2111 : BitVec 32 := 1#32
  let v1828 : BitVec 32 := Scalar.muli v58 c1_i32_2111
  let v1829 : BitVec 32 := Scalar.addi c0_i32_2112 v1828
  v1829.toNat
def k0_dev79 (d0 : Dev nD) : Nat :=
  let c0_i32_2154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2153 : BitVec 32 := 1#32
  let v1855 : BitVec 32 := Scalar.muli v58 c1_i32_2153
  let v1856 : BitVec 32 := Scalar.addi c0_i32_2154 v1855
  v1856.toNat
def k0_dev80 (d0 : Dev nD) : Nat :=
  let c0_i32_2163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2162 : BitVec 32 := 1#32
  let v1867 : BitVec 32 := Scalar.muli v38 c1_i32_2162
  let v1868 : BitVec 32 := Scalar.addi c0_i32_2163 v1867
  v1868.toNat
def k0_dev81 (d0 : Dev nD) : Nat :=
  let c0_i32_2205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2204 : BitVec 32 := 1#32
  let v1894 : BitVec 32 := Scalar.muli v38 c1_i32_2204
  let v1895 : BitVec 32 := Scalar.addi c0_i32_2205 v1894
  v1895.toNat
def k0_dev82 (d0 : Dev nD) : Nat :=
  let c0_i32_2214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2213 : BitVec 32 := 1#32
  let v1906 : BitVec 32 := Scalar.muli v58 c1_i32_2213
  let v1907 : BitVec 32 := Scalar.addi c0_i32_2214 v1906
  v1907.toNat
def k0_dev83 (d0 : Dev nD) : Nat :=
  let c0_i32_2256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2255 : BitVec 32 := 1#32
  let v1933 : BitVec 32 := Scalar.muli v58 c1_i32_2255
  let v1934 : BitVec 32 := Scalar.addi c0_i32_2256 v1933
  v1934.toNat
def k0_dev84 (d0 : Dev nD) : Nat :=
  let c0_i32_2265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2264 : BitVec 32 := 1#32
  let v1945 : BitVec 32 := Scalar.muli v38 c1_i32_2264
  let v1946 : BitVec 32 := Scalar.addi c0_i32_2265 v1945
  v1946.toNat
def k0_dev85 (d0 : Dev nD) : Nat :=
  let c0_i32_2307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2306 : BitVec 32 := 1#32
  let v1972 : BitVec 32 := Scalar.muli v38 c1_i32_2306
  let v1973 : BitVec 32 := Scalar.addi c0_i32_2307 v1972
  v1973.toNat
def k0_dev86 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2315 : BitVec 32 := 1#32
  let v1984 : BitVec 32 := Scalar.muli v58 c1_i32_2315
  let v1985 : BitVec 32 := Scalar.addi c0_i32_2316 v1984
  v1985.toNat
def k0_dev87 (d0 : Dev nD) : Nat :=
  let c0_i32_2358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2357 : BitVec 32 := 1#32
  let v2011 : BitVec 32 := Scalar.muli v58 c1_i32_2357
  let v2012 : BitVec 32 := Scalar.addi c0_i32_2358 v2011
  v2012.toNat
def k0_dev88 (d0 : Dev nD) : Nat :=
  let c0_i32_2367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2366 : BitVec 32 := 1#32
  let v2023 : BitVec 32 := Scalar.muli v38 c1_i32_2366
  let v2024 : BitVec 32 := Scalar.addi c0_i32_2367 v2023
  v2024.toNat
def k0_dev89 (d0 : Dev nD) : Nat :=
  let c0_i32_2409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2408 : BitVec 32 := 1#32
  let v2050 : BitVec 32 := Scalar.muli v38 c1_i32_2408
  let v2051 : BitVec 32 := Scalar.addi c0_i32_2409 v2050
  v2051.toNat
def k0_dev90 (d0 : Dev nD) : Nat :=
  let c0_i32_2418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2417 : BitVec 32 := 1#32
  let v2062 : BitVec 32 := Scalar.muli v58 c1_i32_2417
  let v2063 : BitVec 32 := Scalar.addi c0_i32_2418 v2062
  v2063.toNat
def k0_dev91 (d0 : Dev nD) : Nat :=
  let c0_i32_2502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2501 : BitVec 32 := 1#32
  let v2145 : BitVec 32 := Scalar.muli v58 c1_i32_2501
  let v2146 : BitVec 32 := Scalar.addi c0_i32_2502 v2145
  v2146.toNat
def k0_dev92 (d0 : Dev nD) : Nat :=
  let c0_i32_2511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2510 : BitVec 32 := 1#32
  let v2157 : BitVec 32 := Scalar.muli v38 c1_i32_2510
  let v2158 : BitVec 32 := Scalar.addi c0_i32_2511 v2157
  v2158.toNat
def k0_dev93 (d0 : Dev nD) : Nat :=
  let c0_i32_2553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2552 : BitVec 32 := 1#32
  let v2184 : BitVec 32 := Scalar.muli v38 c1_i32_2552
  let v2185 : BitVec 32 := Scalar.addi c0_i32_2553 v2184
  v2185.toNat
def k0_dev94 (d0 : Dev nD) : Nat :=
  let c0_i32_2562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2561 : BitVec 32 := 1#32
  let v2196 : BitVec 32 := Scalar.muli v58 c1_i32_2561
  let v2197 : BitVec 32 := Scalar.addi c0_i32_2562 v2196
  v2197.toNat
def k0_dev95 (d0 : Dev nD) : Nat :=
  let c0_i32_2604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2603 : BitVec 32 := 1#32
  let v2223 : BitVec 32 := Scalar.muli v58 c1_i32_2603
  let v2224 : BitVec 32 := Scalar.addi c0_i32_2604 v2223
  v2224.toNat
def k0_dev96 (d0 : Dev nD) : Nat :=
  let c0_i32_2613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2612 : BitVec 32 := 1#32
  let v2235 : BitVec 32 := Scalar.muli v38 c1_i32_2612
  let v2236 : BitVec 32 := Scalar.addi c0_i32_2613 v2235
  v2236.toNat
def k0_dev97 (d0 : Dev nD) : Nat :=
  let c0_i32_2655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2654 : BitVec 32 := 1#32
  let v2262 : BitVec 32 := Scalar.muli v38 c1_i32_2654
  let v2263 : BitVec 32 := Scalar.addi c0_i32_2655 v2262
  v2263.toNat
def k0_dev98 (d0 : Dev nD) : Nat :=
  let c0_i32_2664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2663 : BitVec 32 := 1#32
  let v2274 : BitVec 32 := Scalar.muli v58 c1_i32_2663
  let v2275 : BitVec 32 := Scalar.addi c0_i32_2664 v2274
  v2275.toNat
def k0_dev99 (d0 : Dev nD) : Nat :=
  let c0_i32_2706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2705 : BitVec 32 := 1#32
  let v2301 : BitVec 32 := Scalar.muli v58 c1_i32_2705
  let v2302 : BitVec 32 := Scalar.addi c0_i32_2706 v2301
  v2302.toNat
def k0_dev100 (d0 : Dev nD) : Nat :=
  let c0_i32_2715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2714 : BitVec 32 := 1#32
  let v2313 : BitVec 32 := Scalar.muli v38 c1_i32_2714
  let v2314 : BitVec 32 := Scalar.addi c0_i32_2715 v2313
  v2314.toNat
def k0_dev101 (d0 : Dev nD) : Nat :=
  let c0_i32_2757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2756 : BitVec 32 := 1#32
  let v2340 : BitVec 32 := Scalar.muli v38 c1_i32_2756
  let v2341 : BitVec 32 := Scalar.addi c0_i32_2757 v2340
  v2341.toNat
def k0_dev102 (d0 : Dev nD) : Nat :=
  let c0_i32_2766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2765 : BitVec 32 := 1#32
  let v2352 : BitVec 32 := Scalar.muli v58 c1_i32_2765
  let v2353 : BitVec 32 := Scalar.addi c0_i32_2766 v2352
  v2353.toNat
def k0_dev103 (d0 : Dev nD) : Nat :=
  let c0_i32_2808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2807 : BitVec 32 := 1#32
  let v2379 : BitVec 32 := Scalar.muli v58 c1_i32_2807
  let v2380 : BitVec 32 := Scalar.addi c0_i32_2808 v2379
  v2380.toNat
def k0_dev104 (d0 : Dev nD) : Nat :=
  let c0_i32_2817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2816 : BitVec 32 := 1#32
  let v2391 : BitVec 32 := Scalar.muli v38 c1_i32_2816
  let v2392 : BitVec 32 := Scalar.addi c0_i32_2817 v2391
  v2392.toNat
def k0_dev105 (d0 : Dev nD) : Nat :=
  let c0_i32_2859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2858 : BitVec 32 := 1#32
  let v2418 : BitVec 32 := Scalar.muli v38 c1_i32_2858
  let v2419 : BitVec 32 := Scalar.addi c0_i32_2859 v2418
  v2419.toNat
def k0_dev106 (d0 : Dev nD) : Nat :=
  let c0_i32_2868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2867 : BitVec 32 := 1#32
  let v2430 : BitVec 32 := Scalar.muli v58 c1_i32_2867
  let v2431 : BitVec 32 := Scalar.addi c0_i32_2868 v2430
  v2431.toNat
def k0_dev107 (d0 : Dev nD) : Nat :=
  let c0_i32_2952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_2951 : BitVec 32 := 1#32
  let v2513 : BitVec 32 := Scalar.muli v58 c1_i32_2951
  let v2514 : BitVec 32 := Scalar.addi c0_i32_2952 v2513
  v2514.toNat
def k0_dev108 (d0 : Dev nD) : Nat :=
  let c0_i32_2961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_2960 : BitVec 32 := 1#32
  let v2525 : BitVec 32 := Scalar.muli v38 c1_i32_2960
  let v2526 : BitVec 32 := Scalar.addi c0_i32_2961 v2525
  v2526.toNat
def k0_dev109 (d0 : Dev nD) : Nat :=
  let c0_i32_3003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3002 : BitVec 32 := 1#32
  let v2552 : BitVec 32 := Scalar.muli v38 c1_i32_3002
  let v2553 : BitVec 32 := Scalar.addi c0_i32_3003 v2552
  v2553.toNat
def k0_dev110 (d0 : Dev nD) : Nat :=
  let c0_i32_3012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3011 : BitVec 32 := 1#32
  let v2564 : BitVec 32 := Scalar.muli v58 c1_i32_3011
  let v2565 : BitVec 32 := Scalar.addi c0_i32_3012 v2564
  v2565.toNat
def k0_dev111 (d0 : Dev nD) : Nat :=
  let c0_i32_3054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3053 : BitVec 32 := 1#32
  let v2591 : BitVec 32 := Scalar.muli v58 c1_i32_3053
  let v2592 : BitVec 32 := Scalar.addi c0_i32_3054 v2591
  v2592.toNat
def k0_dev112 (d0 : Dev nD) : Nat :=
  let c0_i32_3063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3062 : BitVec 32 := 1#32
  let v2603 : BitVec 32 := Scalar.muli v38 c1_i32_3062
  let v2604 : BitVec 32 := Scalar.addi c0_i32_3063 v2603
  v2604.toNat
def k0_dev113 (d0 : Dev nD) : Nat :=
  let c0_i32_3105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3104 : BitVec 32 := 1#32
  let v2630 : BitVec 32 := Scalar.muli v38 c1_i32_3104
  let v2631 : BitVec 32 := Scalar.addi c0_i32_3105 v2630
  v2631.toNat
def k0_dev114 (d0 : Dev nD) : Nat :=
  let c0_i32_3114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3113 : BitVec 32 := 1#32
  let v2642 : BitVec 32 := Scalar.muli v58 c1_i32_3113
  let v2643 : BitVec 32 := Scalar.addi c0_i32_3114 v2642
  v2643.toNat
def k0_dev115 (d0 : Dev nD) : Nat :=
  let c0_i32_3156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3155 : BitVec 32 := 1#32
  let v2669 : BitVec 32 := Scalar.muli v58 c1_i32_3155
  let v2670 : BitVec 32 := Scalar.addi c0_i32_3156 v2669
  v2670.toNat
def k0_dev116 (d0 : Dev nD) : Nat :=
  let c0_i32_3165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3164 : BitVec 32 := 1#32
  let v2681 : BitVec 32 := Scalar.muli v38 c1_i32_3164
  let v2682 : BitVec 32 := Scalar.addi c0_i32_3165 v2681
  v2682.toNat
def k0_dev117 (d0 : Dev nD) : Nat :=
  let c0_i32_3207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3206 : BitVec 32 := 1#32
  let v2708 : BitVec 32 := Scalar.muli v38 c1_i32_3206
  let v2709 : BitVec 32 := Scalar.addi c0_i32_3207 v2708
  v2709.toNat
def k0_dev118 (d0 : Dev nD) : Nat :=
  let c0_i32_3216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3215 : BitVec 32 := 1#32
  let v2720 : BitVec 32 := Scalar.muli v58 c1_i32_3215
  let v2721 : BitVec 32 := Scalar.addi c0_i32_3216 v2720
  v2721.toNat
def k0_dev119 (d0 : Dev nD) : Nat :=
  let c0_i32_3258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3257 : BitVec 32 := 1#32
  let v2747 : BitVec 32 := Scalar.muli v58 c1_i32_3257
  let v2748 : BitVec 32 := Scalar.addi c0_i32_3258 v2747
  v2748.toNat
def k0_dev120 (d0 : Dev nD) : Nat :=
  let c0_i32_3267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3266 : BitVec 32 := 1#32
  let v2759 : BitVec 32 := Scalar.muli v38 c1_i32_3266
  let v2760 : BitVec 32 := Scalar.addi c0_i32_3267 v2759
  v2760.toNat
def k0_dev121 (d0 : Dev nD) : Nat :=
  let c0_i32_3309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3308 : BitVec 32 := 1#32
  let v2786 : BitVec 32 := Scalar.muli v38 c1_i32_3308
  let v2787 : BitVec 32 := Scalar.addi c0_i32_3309 v2786
  v2787.toNat
def k0_dev122 (d0 : Dev nD) : Nat :=
  let c0_i32_3318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3317 : BitVec 32 := 1#32
  let v2798 : BitVec 32 := Scalar.muli v58 c1_i32_3317
  let v2799 : BitVec 32 := Scalar.addi c0_i32_3318 v2798
  v2799.toNat
def k0_dev123 (d0 : Dev nD) : Nat :=
  let c0_i32_3402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3401 : BitVec 32 := 1#32
  let v2881 : BitVec 32 := Scalar.muli v58 c1_i32_3401
  let v2882 : BitVec 32 := Scalar.addi c0_i32_3402 v2881
  v2882.toNat
def k0_dev124 (d0 : Dev nD) : Nat :=
  let c0_i32_3411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3410 : BitVec 32 := 1#32
  let v2893 : BitVec 32 := Scalar.muli v38 c1_i32_3410
  let v2894 : BitVec 32 := Scalar.addi c0_i32_3411 v2893
  v2894.toNat
def k0_dev125 (d0 : Dev nD) : Nat :=
  let c0_i32_3453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3452 : BitVec 32 := 1#32
  let v2920 : BitVec 32 := Scalar.muli v38 c1_i32_3452
  let v2921 : BitVec 32 := Scalar.addi c0_i32_3453 v2920
  v2921.toNat
def k0_dev126 (d0 : Dev nD) : Nat :=
  let c0_i32_3462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3461 : BitVec 32 := 1#32
  let v2932 : BitVec 32 := Scalar.muli v58 c1_i32_3461
  let v2933 : BitVec 32 := Scalar.addi c0_i32_3462 v2932
  v2933.toNat
def k0_dev127 (d0 : Dev nD) : Nat :=
  let c0_i32_3504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3503 : BitVec 32 := 1#32
  let v2959 : BitVec 32 := Scalar.muli v58 c1_i32_3503
  let v2960 : BitVec 32 := Scalar.addi c0_i32_3504 v2959
  v2960.toNat
def k0_dev128 (d0 : Dev nD) : Nat :=
  let c0_i32_3513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3512 : BitVec 32 := 1#32
  let v2971 : BitVec 32 := Scalar.muli v38 c1_i32_3512
  let v2972 : BitVec 32 := Scalar.addi c0_i32_3513 v2971
  v2972.toNat
def k0_dev129 (d0 : Dev nD) : Nat :=
  let c0_i32_3555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3554 : BitVec 32 := 1#32
  let v2998 : BitVec 32 := Scalar.muli v38 c1_i32_3554
  let v2999 : BitVec 32 := Scalar.addi c0_i32_3555 v2998
  v2999.toNat
def k0_dev130 (d0 : Dev nD) : Nat :=
  let c0_i32_3564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3563 : BitVec 32 := 1#32
  let v3010 : BitVec 32 := Scalar.muli v58 c1_i32_3563
  let v3011 : BitVec 32 := Scalar.addi c0_i32_3564 v3010
  v3011.toNat
def k0_dev131 (d0 : Dev nD) : Nat :=
  let c0_i32_3606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3605 : BitVec 32 := 1#32
  let v3037 : BitVec 32 := Scalar.muli v58 c1_i32_3605
  let v3038 : BitVec 32 := Scalar.addi c0_i32_3606 v3037
  v3038.toNat
def k0_dev132 (d0 : Dev nD) : Nat :=
  let c0_i32_3615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3614 : BitVec 32 := 1#32
  let v3049 : BitVec 32 := Scalar.muli v38 c1_i32_3614
  let v3050 : BitVec 32 := Scalar.addi c0_i32_3615 v3049
  v3050.toNat
def k0_dev133 (d0 : Dev nD) : Nat :=
  let c0_i32_3657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3656 : BitVec 32 := 1#32
  let v3076 : BitVec 32 := Scalar.muli v38 c1_i32_3656
  let v3077 : BitVec 32 := Scalar.addi c0_i32_3657 v3076
  v3077.toNat
def k0_dev134 (d0 : Dev nD) : Nat :=
  let c0_i32_3666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3665 : BitVec 32 := 1#32
  let v3088 : BitVec 32 := Scalar.muli v58 c1_i32_3665
  let v3089 : BitVec 32 := Scalar.addi c0_i32_3666 v3088
  v3089.toNat
def k0_dev135 (d0 : Dev nD) : Nat :=
  let c0_i32_3708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3707 : BitVec 32 := 1#32
  let v3115 : BitVec 32 := Scalar.muli v58 c1_i32_3707
  let v3116 : BitVec 32 := Scalar.addi c0_i32_3708 v3115
  v3116.toNat
def k0_dev136 (d0 : Dev nD) : Nat :=
  let c0_i32_3717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3716 : BitVec 32 := 1#32
  let v3127 : BitVec 32 := Scalar.muli v38 c1_i32_3716
  let v3128 : BitVec 32 := Scalar.addi c0_i32_3717 v3127
  v3128.toNat
def k0_dev137 (d0 : Dev nD) : Nat :=
  let c0_i32_3759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3758 : BitVec 32 := 1#32
  let v3154 : BitVec 32 := Scalar.muli v38 c1_i32_3758
  let v3155 : BitVec 32 := Scalar.addi c0_i32_3759 v3154
  v3155.toNat
def k0_dev138 (d0 : Dev nD) : Nat :=
  let c0_i32_3768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3767 : BitVec 32 := 1#32
  let v3166 : BitVec 32 := Scalar.muli v58 c1_i32_3767
  let v3167 : BitVec 32 := Scalar.addi c0_i32_3768 v3166
  v3167.toNat
def k0_dev139 (d0 : Dev nD) : Nat :=
  let c0_i32_3852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3851 : BitVec 32 := 1#32
  let v3249 : BitVec 32 := Scalar.muli v58 c1_i32_3851
  let v3250 : BitVec 32 := Scalar.addi c0_i32_3852 v3249
  v3250.toNat
def k0_dev140 (d0 : Dev nD) : Nat :=
  let c0_i32_3861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3860 : BitVec 32 := 1#32
  let v3261 : BitVec 32 := Scalar.muli v38 c1_i32_3860
  let v3262 : BitVec 32 := Scalar.addi c0_i32_3861 v3261
  v3262.toNat
def k0_dev141 (d0 : Dev nD) : Nat :=
  let c0_i32_3903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3902 : BitVec 32 := 1#32
  let v3288 : BitVec 32 := Scalar.muli v38 c1_i32_3902
  let v3289 : BitVec 32 := Scalar.addi c0_i32_3903 v3288
  v3289.toNat
def k0_dev142 (d0 : Dev nD) : Nat :=
  let c0_i32_3912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3911 : BitVec 32 := 1#32
  let v3300 : BitVec 32 := Scalar.muli v58 c1_i32_3911
  let v3301 : BitVec 32 := Scalar.addi c0_i32_3912 v3300
  v3301.toNat
def k0_dev143 (d0 : Dev nD) : Nat :=
  let c0_i32_3954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_3953 : BitVec 32 := 1#32
  let v3327 : BitVec 32 := Scalar.muli v58 c1_i32_3953
  let v3328 : BitVec 32 := Scalar.addi c0_i32_3954 v3327
  v3328.toNat
def k0_dev144 (d0 : Dev nD) : Nat :=
  let c0_i32_3963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_3962 : BitVec 32 := 1#32
  let v3339 : BitVec 32 := Scalar.muli v38 c1_i32_3962
  let v3340 : BitVec 32 := Scalar.addi c0_i32_3963 v3339
  v3340.toNat
def k0_dev145 (d0 : Dev nD) : Nat :=
  let c0_i32_4005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4004 : BitVec 32 := 1#32
  let v3366 : BitVec 32 := Scalar.muli v38 c1_i32_4004
  let v3367 : BitVec 32 := Scalar.addi c0_i32_4005 v3366
  v3367.toNat
def k0_dev146 (d0 : Dev nD) : Nat :=
  let c0_i32_4014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4013 : BitVec 32 := 1#32
  let v3378 : BitVec 32 := Scalar.muli v58 c1_i32_4013
  let v3379 : BitVec 32 := Scalar.addi c0_i32_4014 v3378
  v3379.toNat
def k0_dev147 (d0 : Dev nD) : Nat :=
  let c0_i32_4056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4055 : BitVec 32 := 1#32
  let v3405 : BitVec 32 := Scalar.muli v58 c1_i32_4055
  let v3406 : BitVec 32 := Scalar.addi c0_i32_4056 v3405
  v3406.toNat
def k0_dev148 (d0 : Dev nD) : Nat :=
  let c0_i32_4065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4064 : BitVec 32 := 1#32
  let v3417 : BitVec 32 := Scalar.muli v38 c1_i32_4064
  let v3418 : BitVec 32 := Scalar.addi c0_i32_4065 v3417
  v3418.toNat
def k0_dev149 (d0 : Dev nD) : Nat :=
  let c0_i32_4107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4106 : BitVec 32 := 1#32
  let v3444 : BitVec 32 := Scalar.muli v38 c1_i32_4106
  let v3445 : BitVec 32 := Scalar.addi c0_i32_4107 v3444
  v3445.toNat
def k0_dev150 (d0 : Dev nD) : Nat :=
  let c0_i32_4116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4115 : BitVec 32 := 1#32
  let v3456 : BitVec 32 := Scalar.muli v58 c1_i32_4115
  let v3457 : BitVec 32 := Scalar.addi c0_i32_4116 v3456
  v3457.toNat
def k0_dev151 (d0 : Dev nD) : Nat :=
  let c0_i32_4158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4157 : BitVec 32 := 1#32
  let v3483 : BitVec 32 := Scalar.muli v58 c1_i32_4157
  let v3484 : BitVec 32 := Scalar.addi c0_i32_4158 v3483
  v3484.toNat
def k0_dev152 (d0 : Dev nD) : Nat :=
  let c0_i32_4167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4166 : BitVec 32 := 1#32
  let v3495 : BitVec 32 := Scalar.muli v38 c1_i32_4166
  let v3496 : BitVec 32 := Scalar.addi c0_i32_4167 v3495
  v3496.toNat
def k0_dev153 (d0 : Dev nD) : Nat :=
  let c0_i32_4209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4208 : BitVec 32 := 1#32
  let v3522 : BitVec 32 := Scalar.muli v38 c1_i32_4208
  let v3523 : BitVec 32 := Scalar.addi c0_i32_4209 v3522
  v3523.toNat
def k0_dev154 (d0 : Dev nD) : Nat :=
  let c0_i32_4218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4217 : BitVec 32 := 1#32
  let v3534 : BitVec 32 := Scalar.muli v58 c1_i32_4217
  let v3535 : BitVec 32 := Scalar.addi c0_i32_4218 v3534
  v3535.toNat
def k0_dev155 (d0 : Dev nD) : Nat :=
  let c0_i32_4302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4301 : BitVec 32 := 1#32
  let v3617 : BitVec 32 := Scalar.muli v58 c1_i32_4301
  let v3618 : BitVec 32 := Scalar.addi c0_i32_4302 v3617
  v3618.toNat
def k0_dev156 (d0 : Dev nD) : Nat :=
  let c0_i32_4311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4310 : BitVec 32 := 1#32
  let v3629 : BitVec 32 := Scalar.muli v38 c1_i32_4310
  let v3630 : BitVec 32 := Scalar.addi c0_i32_4311 v3629
  v3630.toNat
def k0_dev157 (d0 : Dev nD) : Nat :=
  let c0_i32_4353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4352 : BitVec 32 := 1#32
  let v3656 : BitVec 32 := Scalar.muli v38 c1_i32_4352
  let v3657 : BitVec 32 := Scalar.addi c0_i32_4353 v3656
  v3657.toNat
def k0_dev158 (d0 : Dev nD) : Nat :=
  let c0_i32_4362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4361 : BitVec 32 := 1#32
  let v3668 : BitVec 32 := Scalar.muli v58 c1_i32_4361
  let v3669 : BitVec 32 := Scalar.addi c0_i32_4362 v3668
  v3669.toNat
def k0_dev159 (d0 : Dev nD) : Nat :=
  let c0_i32_4404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4403 : BitVec 32 := 1#32
  let v3695 : BitVec 32 := Scalar.muli v58 c1_i32_4403
  let v3696 : BitVec 32 := Scalar.addi c0_i32_4404 v3695
  v3696.toNat
def k0_dev160 (d0 : Dev nD) : Nat :=
  let c0_i32_4413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4412 : BitVec 32 := 1#32
  let v3707 : BitVec 32 := Scalar.muli v38 c1_i32_4412
  let v3708 : BitVec 32 := Scalar.addi c0_i32_4413 v3707
  v3708.toNat
def k0_dev161 (d0 : Dev nD) : Nat :=
  let c0_i32_4455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4454 : BitVec 32 := 1#32
  let v3734 : BitVec 32 := Scalar.muli v38 c1_i32_4454
  let v3735 : BitVec 32 := Scalar.addi c0_i32_4455 v3734
  v3735.toNat
def k0_dev162 (d0 : Dev nD) : Nat :=
  let c0_i32_4464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4463 : BitVec 32 := 1#32
  let v3746 : BitVec 32 := Scalar.muli v58 c1_i32_4463
  let v3747 : BitVec 32 := Scalar.addi c0_i32_4464 v3746
  v3747.toNat
def k0_dev163 (d0 : Dev nD) : Nat :=
  let c0_i32_4506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4505 : BitVec 32 := 1#32
  let v3773 : BitVec 32 := Scalar.muli v58 c1_i32_4505
  let v3774 : BitVec 32 := Scalar.addi c0_i32_4506 v3773
  v3774.toNat
def k0_dev164 (d0 : Dev nD) : Nat :=
  let c0_i32_4515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4514 : BitVec 32 := 1#32
  let v3785 : BitVec 32 := Scalar.muli v38 c1_i32_4514
  let v3786 : BitVec 32 := Scalar.addi c0_i32_4515 v3785
  v3786.toNat
def k0_dev165 (d0 : Dev nD) : Nat :=
  let c0_i32_4557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4556 : BitVec 32 := 1#32
  let v3812 : BitVec 32 := Scalar.muli v38 c1_i32_4556
  let v3813 : BitVec 32 := Scalar.addi c0_i32_4557 v3812
  v3813.toNat
def k0_dev166 (d0 : Dev nD) : Nat :=
  let c0_i32_4566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4565 : BitVec 32 := 1#32
  let v3824 : BitVec 32 := Scalar.muli v58 c1_i32_4565
  let v3825 : BitVec 32 := Scalar.addi c0_i32_4566 v3824
  v3825.toNat
def k0_dev167 (d0 : Dev nD) : Nat :=
  let c0_i32_4608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4607 : BitVec 32 := 1#32
  let v3851 : BitVec 32 := Scalar.muli v58 c1_i32_4607
  let v3852 : BitVec 32 := Scalar.addi c0_i32_4608 v3851
  v3852.toNat
def k0_dev168 (d0 : Dev nD) : Nat :=
  let c0_i32_4617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4616 : BitVec 32 := 1#32
  let v3863 : BitVec 32 := Scalar.muli v38 c1_i32_4616
  let v3864 : BitVec 32 := Scalar.addi c0_i32_4617 v3863
  v3864.toNat
def k0_dev169 (d0 : Dev nD) : Nat :=
  let c0_i32_4659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4658 : BitVec 32 := 1#32
  let v3890 : BitVec 32 := Scalar.muli v38 c1_i32_4658
  let v3891 : BitVec 32 := Scalar.addi c0_i32_4659 v3890
  v3891.toNat
def k0_dev170 (d0 : Dev nD) : Nat :=
  let c0_i32_4668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4667 : BitVec 32 := 1#32
  let v3902 : BitVec 32 := Scalar.muli v58 c1_i32_4667
  let v3903 : BitVec 32 := Scalar.addi c0_i32_4668 v3902
  v3903.toNat
def k0_dev171 (d0 : Dev nD) : Nat :=
  let c0_i32_4752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4751 : BitVec 32 := 1#32
  let v3985 : BitVec 32 := Scalar.muli v58 c1_i32_4751
  let v3986 : BitVec 32 := Scalar.addi c0_i32_4752 v3985
  v3986.toNat
def k0_dev172 (d0 : Dev nD) : Nat :=
  let c0_i32_4761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4760 : BitVec 32 := 1#32
  let v3997 : BitVec 32 := Scalar.muli v38 c1_i32_4760
  let v3998 : BitVec 32 := Scalar.addi c0_i32_4761 v3997
  v3998.toNat
def k0_dev173 (d0 : Dev nD) : Nat :=
  let c0_i32_4803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4802 : BitVec 32 := 1#32
  let v4024 : BitVec 32 := Scalar.muli v38 c1_i32_4802
  let v4025 : BitVec 32 := Scalar.addi c0_i32_4803 v4024
  v4025.toNat
def k0_dev174 (d0 : Dev nD) : Nat :=
  let c0_i32_4812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4811 : BitVec 32 := 1#32
  let v4036 : BitVec 32 := Scalar.muli v58 c1_i32_4811
  let v4037 : BitVec 32 := Scalar.addi c0_i32_4812 v4036
  v4037.toNat
def k0_dev175 (d0 : Dev nD) : Nat :=
  let c0_i32_4854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4853 : BitVec 32 := 1#32
  let v4063 : BitVec 32 := Scalar.muli v58 c1_i32_4853
  let v4064 : BitVec 32 := Scalar.addi c0_i32_4854 v4063
  v4064.toNat
def k0_dev176 (d0 : Dev nD) : Nat :=
  let c0_i32_4863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4862 : BitVec 32 := 1#32
  let v4075 : BitVec 32 := Scalar.muli v38 c1_i32_4862
  let v4076 : BitVec 32 := Scalar.addi c0_i32_4863 v4075
  v4076.toNat
def k0_dev177 (d0 : Dev nD) : Nat :=
  let c0_i32_4905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4904 : BitVec 32 := 1#32
  let v4102 : BitVec 32 := Scalar.muli v38 c1_i32_4904
  let v4103 : BitVec 32 := Scalar.addi c0_i32_4905 v4102
  v4103.toNat
def k0_dev178 (d0 : Dev nD) : Nat :=
  let c0_i32_4914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4913 : BitVec 32 := 1#32
  let v4114 : BitVec 32 := Scalar.muli v58 c1_i32_4913
  let v4115 : BitVec 32 := Scalar.addi c0_i32_4914 v4114
  v4115.toNat
def k0_dev179 (d0 : Dev nD) : Nat :=
  let c0_i32_4956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_4955 : BitVec 32 := 1#32
  let v4141 : BitVec 32 := Scalar.muli v58 c1_i32_4955
  let v4142 : BitVec 32 := Scalar.addi c0_i32_4956 v4141
  v4142.toNat
def k0_dev180 (d0 : Dev nD) : Nat :=
  let c0_i32_4965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_4964 : BitVec 32 := 1#32
  let v4153 : BitVec 32 := Scalar.muli v38 c1_i32_4964
  let v4154 : BitVec 32 := Scalar.addi c0_i32_4965 v4153
  v4154.toNat
def k0_dev181 (d0 : Dev nD) : Nat :=
  let c0_i32_5007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5006 : BitVec 32 := 1#32
  let v4180 : BitVec 32 := Scalar.muli v38 c1_i32_5006
  let v4181 : BitVec 32 := Scalar.addi c0_i32_5007 v4180
  v4181.toNat
def k0_dev182 (d0 : Dev nD) : Nat :=
  let c0_i32_5016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5015 : BitVec 32 := 1#32
  let v4192 : BitVec 32 := Scalar.muli v58 c1_i32_5015
  let v4193 : BitVec 32 := Scalar.addi c0_i32_5016 v4192
  v4193.toNat
def k0_dev183 (d0 : Dev nD) : Nat :=
  let c0_i32_5058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5057 : BitVec 32 := 1#32
  let v4219 : BitVec 32 := Scalar.muli v58 c1_i32_5057
  let v4220 : BitVec 32 := Scalar.addi c0_i32_5058 v4219
  v4220.toNat
def k0_dev184 (d0 : Dev nD) : Nat :=
  let c0_i32_5067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5066 : BitVec 32 := 1#32
  let v4231 : BitVec 32 := Scalar.muli v38 c1_i32_5066
  let v4232 : BitVec 32 := Scalar.addi c0_i32_5067 v4231
  v4232.toNat
def k0_dev185 (d0 : Dev nD) : Nat :=
  let c0_i32_5109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5108 : BitVec 32 := 1#32
  let v4258 : BitVec 32 := Scalar.muli v38 c1_i32_5108
  let v4259 : BitVec 32 := Scalar.addi c0_i32_5109 v4258
  v4259.toNat
def k0_dev186 (d0 : Dev nD) : Nat :=
  let c0_i32_5118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5117 : BitVec 32 := 1#32
  let v4270 : BitVec 32 := Scalar.muli v58 c1_i32_5117
  let v4271 : BitVec 32 := Scalar.addi c0_i32_5118 v4270
  v4271.toNat
def k0_dev187 (d0 : Dev nD) : Nat :=
  let c0_i32_5202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5201 : BitVec 32 := 1#32
  let v4353 : BitVec 32 := Scalar.muli v58 c1_i32_5201
  let v4354 : BitVec 32 := Scalar.addi c0_i32_5202 v4353
  v4354.toNat
def k0_dev188 (d0 : Dev nD) : Nat :=
  let c0_i32_5211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5210 : BitVec 32 := 1#32
  let v4365 : BitVec 32 := Scalar.muli v38 c1_i32_5210
  let v4366 : BitVec 32 := Scalar.addi c0_i32_5211 v4365
  v4366.toNat
def k0_dev189 (d0 : Dev nD) : Nat :=
  let c0_i32_5253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5252 : BitVec 32 := 1#32
  let v4392 : BitVec 32 := Scalar.muli v38 c1_i32_5252
  let v4393 : BitVec 32 := Scalar.addi c0_i32_5253 v4392
  v4393.toNat
def k0_dev190 (d0 : Dev nD) : Nat :=
  let c0_i32_5262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5261 : BitVec 32 := 1#32
  let v4404 : BitVec 32 := Scalar.muli v58 c1_i32_5261
  let v4405 : BitVec 32 := Scalar.addi c0_i32_5262 v4404
  v4405.toNat
def k0_dev191 (d0 : Dev nD) : Nat :=
  let c0_i32_5304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5303 : BitVec 32 := 1#32
  let v4431 : BitVec 32 := Scalar.muli v58 c1_i32_5303
  let v4432 : BitVec 32 := Scalar.addi c0_i32_5304 v4431
  v4432.toNat
def k0_dev192 (d0 : Dev nD) : Nat :=
  let c0_i32_5313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5312 : BitVec 32 := 1#32
  let v4443 : BitVec 32 := Scalar.muli v38 c1_i32_5312
  let v4444 : BitVec 32 := Scalar.addi c0_i32_5313 v4443
  v4444.toNat
def k0_dev193 (d0 : Dev nD) : Nat :=
  let c0_i32_5355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5354 : BitVec 32 := 1#32
  let v4470 : BitVec 32 := Scalar.muli v38 c1_i32_5354
  let v4471 : BitVec 32 := Scalar.addi c0_i32_5355 v4470
  v4471.toNat
def k0_dev194 (d0 : Dev nD) : Nat :=
  let c0_i32_5364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5363 : BitVec 32 := 1#32
  let v4482 : BitVec 32 := Scalar.muli v58 c1_i32_5363
  let v4483 : BitVec 32 := Scalar.addi c0_i32_5364 v4482
  v4483.toNat
def k0_dev195 (d0 : Dev nD) : Nat :=
  let c0_i32_5406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5405 : BitVec 32 := 1#32
  let v4509 : BitVec 32 := Scalar.muli v58 c1_i32_5405
  let v4510 : BitVec 32 := Scalar.addi c0_i32_5406 v4509
  v4510.toNat
def k0_dev196 (d0 : Dev nD) : Nat :=
  let c0_i32_5415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5414 : BitVec 32 := 1#32
  let v4521 : BitVec 32 := Scalar.muli v38 c1_i32_5414
  let v4522 : BitVec 32 := Scalar.addi c0_i32_5415 v4521
  v4522.toNat
def k0_dev197 (d0 : Dev nD) : Nat :=
  let c0_i32_5457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5456 : BitVec 32 := 1#32
  let v4548 : BitVec 32 := Scalar.muli v38 c1_i32_5456
  let v4549 : BitVec 32 := Scalar.addi c0_i32_5457 v4548
  v4549.toNat
def k0_dev198 (d0 : Dev nD) : Nat :=
  let c0_i32_5466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5465 : BitVec 32 := 1#32
  let v4560 : BitVec 32 := Scalar.muli v58 c1_i32_5465
  let v4561 : BitVec 32 := Scalar.addi c0_i32_5466 v4560
  v4561.toNat
def k0_dev199 (d0 : Dev nD) : Nat :=
  let c0_i32_5508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5507 : BitVec 32 := 1#32
  let v4587 : BitVec 32 := Scalar.muli v58 c1_i32_5507
  let v4588 : BitVec 32 := Scalar.addi c0_i32_5508 v4587
  v4588.toNat
def k0_dev200 (d0 : Dev nD) : Nat :=
  let c0_i32_5517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5516 : BitVec 32 := 1#32
  let v4599 : BitVec 32 := Scalar.muli v38 c1_i32_5516
  let v4600 : BitVec 32 := Scalar.addi c0_i32_5517 v4599
  v4600.toNat
def k0_dev201 (d0 : Dev nD) : Nat :=
  let c0_i32_5559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5558 : BitVec 32 := 1#32
  let v4626 : BitVec 32 := Scalar.muli v38 c1_i32_5558
  let v4627 : BitVec 32 := Scalar.addi c0_i32_5559 v4626
  v4627.toNat
def k0_dev202 (d0 : Dev nD) : Nat :=
  let c0_i32_5568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5567 : BitVec 32 := 1#32
  let v4638 : BitVec 32 := Scalar.muli v58 c1_i32_5567
  let v4639 : BitVec 32 := Scalar.addi c0_i32_5568 v4638
  v4639.toNat
def k0_dev203 (d0 : Dev nD) : Nat :=
  let c0_i32_5652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5651 : BitVec 32 := 1#32
  let v4721 : BitVec 32 := Scalar.muli v58 c1_i32_5651
  let v4722 : BitVec 32 := Scalar.addi c0_i32_5652 v4721
  v4722.toNat
def k0_dev204 (d0 : Dev nD) : Nat :=
  let c0_i32_5661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5660 : BitVec 32 := 1#32
  let v4733 : BitVec 32 := Scalar.muli v38 c1_i32_5660
  let v4734 : BitVec 32 := Scalar.addi c0_i32_5661 v4733
  v4734.toNat
def k0_dev205 (d0 : Dev nD) : Nat :=
  let c0_i32_5703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5702 : BitVec 32 := 1#32
  let v4760 : BitVec 32 := Scalar.muli v38 c1_i32_5702
  let v4761 : BitVec 32 := Scalar.addi c0_i32_5703 v4760
  v4761.toNat
def k0_dev206 (d0 : Dev nD) : Nat :=
  let c0_i32_5712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5711 : BitVec 32 := 1#32
  let v4772 : BitVec 32 := Scalar.muli v58 c1_i32_5711
  let v4773 : BitVec 32 := Scalar.addi c0_i32_5712 v4772
  v4773.toNat
def k0_dev207 (d0 : Dev nD) : Nat :=
  let c0_i32_5754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5753 : BitVec 32 := 1#32
  let v4799 : BitVec 32 := Scalar.muli v58 c1_i32_5753
  let v4800 : BitVec 32 := Scalar.addi c0_i32_5754 v4799
  v4800.toNat
def k0_dev208 (d0 : Dev nD) : Nat :=
  let c0_i32_5763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5762 : BitVec 32 := 1#32
  let v4811 : BitVec 32 := Scalar.muli v38 c1_i32_5762
  let v4812 : BitVec 32 := Scalar.addi c0_i32_5763 v4811
  v4812.toNat
def k0_dev209 (d0 : Dev nD) : Nat :=
  let c0_i32_5805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5804 : BitVec 32 := 1#32
  let v4838 : BitVec 32 := Scalar.muli v38 c1_i32_5804
  let v4839 : BitVec 32 := Scalar.addi c0_i32_5805 v4838
  v4839.toNat
def k0_dev210 (d0 : Dev nD) : Nat :=
  let c0_i32_5814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5813 : BitVec 32 := 1#32
  let v4850 : BitVec 32 := Scalar.muli v58 c1_i32_5813
  let v4851 : BitVec 32 := Scalar.addi c0_i32_5814 v4850
  v4851.toNat
def k0_dev211 (d0 : Dev nD) : Nat :=
  let c0_i32_5856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5855 : BitVec 32 := 1#32
  let v4877 : BitVec 32 := Scalar.muli v58 c1_i32_5855
  let v4878 : BitVec 32 := Scalar.addi c0_i32_5856 v4877
  v4878.toNat
def k0_dev212 (d0 : Dev nD) : Nat :=
  let c0_i32_5865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5864 : BitVec 32 := 1#32
  let v4889 : BitVec 32 := Scalar.muli v38 c1_i32_5864
  let v4890 : BitVec 32 := Scalar.addi c0_i32_5865 v4889
  v4890.toNat
def k0_dev213 (d0 : Dev nD) : Nat :=
  let c0_i32_5907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5906 : BitVec 32 := 1#32
  let v4916 : BitVec 32 := Scalar.muli v38 c1_i32_5906
  let v4917 : BitVec 32 := Scalar.addi c0_i32_5907 v4916
  v4917.toNat
def k0_dev214 (d0 : Dev nD) : Nat :=
  let c0_i32_5916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5915 : BitVec 32 := 1#32
  let v4928 : BitVec 32 := Scalar.muli v58 c1_i32_5915
  let v4929 : BitVec 32 := Scalar.addi c0_i32_5916 v4928
  v4929.toNat
def k0_dev215 (d0 : Dev nD) : Nat :=
  let c0_i32_5958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_5957 : BitVec 32 := 1#32
  let v4955 : BitVec 32 := Scalar.muli v58 c1_i32_5957
  let v4956 : BitVec 32 := Scalar.addi c0_i32_5958 v4955
  v4956.toNat
def k0_dev216 (d0 : Dev nD) : Nat :=
  let c0_i32_5967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_5966 : BitVec 32 := 1#32
  let v4967 : BitVec 32 := Scalar.muli v38 c1_i32_5966
  let v4968 : BitVec 32 := Scalar.addi c0_i32_5967 v4967
  v4968.toNat
def k0_dev217 (d0 : Dev nD) : Nat :=
  let c0_i32_6009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_6008 : BitVec 32 := 1#32
  let v4994 : BitVec 32 := Scalar.muli v38 c1_i32_6008
  let v4995 : BitVec 32 := Scalar.addi c0_i32_6009 v4994
  v4995.toNat
def k0_dev218 (d0 : Dev nD) : Nat :=
  let c0_i32_6018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_6017 : BitVec 32 := 1#32
  let v5006 : BitVec 32 := Scalar.muli v58 c1_i32_6017
  let v5007 : BitVec 32 := Scalar.addi c0_i32_6018 v5006
  v5007.toNat
def k0_dev219 (d0 : Dev nD) : Nat :=
  let c0_i32_6102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_6101 : BitVec 32 := 1#32
  let v5089 : BitVec 32 := Scalar.muli v58 c1_i32_6101
  let v5090 : BitVec 32 := Scalar.addi c0_i32_6102 v5089
  v5090.toNat
def k0_dev220 (d0 : Dev nD) : Nat :=
  let c0_i32_6111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_6110 : BitVec 32 := 1#32
  let v5101 : BitVec 32 := Scalar.muli v38 c1_i32_6110
  let v5102 : BitVec 32 := Scalar.addi c0_i32_6111 v5101
  v5102.toNat
def k0_dev221 (d0 : Dev nD) : Nat :=
  let c0_i32_6153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_6152 : BitVec 32 := 1#32
  let v5128 : BitVec 32 := Scalar.muli v38 c1_i32_6152
  let v5129 : BitVec 32 := Scalar.addi c0_i32_6153 v5128
  v5129.toNat
def k0_dev222 (d0 : Dev nD) : Nat :=
  let c0_i32_6199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_6198 : BitVec 32 := 1#32
  let v5163 : BitVec 32 := Scalar.muli v58 c1_i32_6198
  let v5164 : BitVec 32 := Scalar.addi c0_i32_6199 v5163
  v5164.toNat
def k0_dev223 (d0 : Dev nD) : Nat :=
  let c0_i32_6208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_6207 : BitVec 32 := 1#32
  let v5175 : BitVec 32 := Scalar.muli v38 c1_i32_6207
  let v5176 : BitVec 32 := Scalar.addi c0_i32_6208 v5175
  v5176.toNat
def k0_dev224 (d0 : Dev nD) : Nat :=
  let c0_i32_6250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_6249 : BitVec 32 := 1#32
  let v5202 : BitVec 32 := Scalar.muli v38 c1_i32_6249
  let v5203 : BitVec 32 := Scalar.addi c0_i32_6250 v5202
  v5203.toNat
def k0_dev225 (d0 : Dev nD) : Nat :=
  let c0_i32_6296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_6295 : BitVec 32 := 1#32
  let v5237 : BitVec 32 := Scalar.muli v58 c1_i32_6295
  let v5238 : BitVec 32 := Scalar.addi c0_i32_6296 v5237
  v5238.toNat
def k0_dev226 (d0 : Dev nD) : Nat :=
  let c0_i32_6305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_6304 : BitVec 32 := 1#32
  let v5249 : BitVec 32 := Scalar.muli v38 c1_i32_6304
  let v5250 : BitVec 32 := Scalar.addi c0_i32_6305 v5249
  v5250.toNat
def k0_dev227 (d0 : Dev nD) : Nat :=
  let c0_i32_6347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_6346 : BitVec 32 := 1#32
  let v5276 : BitVec 32 := Scalar.muli v38 c1_i32_6346
  let v5277 : BitVec 32 := Scalar.addi c0_i32_6347 v5276
  v5277.toNat
def k0_dev228 (d0 : Dev nD) : Nat :=
  let c0_i32_6393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_6392 : BitVec 32 := 1#32
  let v5311 : BitVec 32 := Scalar.muli v58 c1_i32_6392
  let v5312 : BitVec 32 := Scalar.addi c0_i32_6393 v5311
  v5312.toNat
def k0_dev229 (d0 : Dev nD) : Nat :=
  let c0_i32_6402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_6401 : BitVec 32 := 1#32
  let v5323 : BitVec 32 := Scalar.muli v38 c1_i32_6401
  let v5324 : BitVec 32 := Scalar.addi c0_i32_6402 v5323
  v5324.toNat
def k0_dev230 (d0 : Dev nD) : Nat :=
  let c0_i32_6444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_6 : BitVec 32 := 1#32
  let v18 : BitVec 32 := Scalar.subi v17 c1_i32_6
  let c32_i32_7 : BitVec 32 := 32#32
  let v19 : BitVec 32 := Scalar.addi v18 c32_i32_7
  let c32_i32_8 : BitVec 32 := 32#32
  let v20 : BitVec 32 := Scalar.remsi v19 c32_i32_8
  let c16_i32 : BitVec 32 := 16#32
  let v21 : BitVec 1 := Scalar.cmpi .slt v20 c16_i32
  let c31_i32_9 : BitVec 32 := 31#32
  let v22 : BitVec 32 := Scalar.subi c31_i32_9 v20
  let v23 : BitVec 32 := Scalar.select v21 v20 v22
  let c4_i32_10 : BitVec 32 := 4#32
  let v24 : BitVec 32 := Scalar.divsi v23 c4_i32_10
  let c8_i32_21 : BitVec 32 := 8#32
  let v37 : BitVec 32 := Scalar.muli v24 c8_i32_21
  let c2_i32_17 : BitVec 32 := 2#32
  let c2_i32_12 : BitVec 32 := 2#32
  let v26 : BitVec 32 := Scalar.remsi v24 c2_i32_12
  let c0_i32_13 : BitVec 32 := 0#32
  let v27 : BitVec 1 := Scalar.cmpi .eq v26 c0_i32_13
  let c4_i32_11 : BitVec 32 := 4#32
  let v25 : BitVec 32 := Scalar.remsi v23 c4_i32_11
  let c3_i32_14 : BitVec 32 := 3#32
  let v28 : BitVec 32 := Scalar.subi c3_i32_14 v25
  let v29 : BitVec 32 := Scalar.select v27 v25 v28
  let v31 : BitVec 32 := Scalar.muli c2_i32_17 v29
  let c2_i32_18 : BitVec 32 := 2#32
  let v32 : BitVec 32 := Scalar.remsi v29 c2_i32_18
  let c0_i32_19 : BitVec 32 := 0#32
  let v33 : BitVec 1 := Scalar.cmpi .eq v32 c0_i32_19
  let c0_i32_15 : BitVec 32 := 0#32
  let c1_i32_16 : BitVec 32 := 1#32
  let v30 : BitVec 32 := Scalar.select v21 c0_i32_15 c1_i32_16
  let c1_i32_20 : BitVec 32 := 1#32
  let v34 : BitVec 32 := Scalar.subi c1_i32_20 v30
  let v35 : BitVec 32 := Scalar.select v33 v30 v34
  let v36 : BitVec 32 := Scalar.addi v31 v35
  let v38 : BitVec 32 := Scalar.addi v37 v36
  let c1_i32_6443 : BitVec 32 := 1#32
  let v5350 : BitVec 32 := Scalar.muli v38 c1_i32_6443
  let v5351 : BitVec 32 := Scalar.addi c0_i32_6444 v5350
  v5351.toNat
def k0_dev231 (d0 : Dev nD) : Nat :=
  let c0_i32_6511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_6510 : BitVec 32 := 1#32
  let v5413 : BitVec 32 := Scalar.muli v58 c1_i32_6510
  let v5414 : BitVec 32 := Scalar.addi c0_i32_6511 v5413
  v5414.toNat
def k0_dev232 (d0 : Dev nD) : Nat :=
  let c0_i32_6573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_6572 : BitVec 32 := 1#32
  let v5459 : BitVec 32 := Scalar.muli v58 c1_i32_6572
  let v5460 : BitVec 32 := Scalar.addi c0_i32_6573 v5459
  v5460.toNat
def k0_dev233 (d0 : Dev nD) : Nat :=
  let c0_i32_6635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_6634 : BitVec 32 := 1#32
  let v5505 : BitVec 32 := Scalar.muli v58 c1_i32_6634
  let v5506 : BitVec 32 := Scalar.addi c0_i32_6635 v5505
  v5506.toNat
def k0_dev234 (d0 : Dev nD) : Nat :=
  let c0_i32_6697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c1_i32_1 : BitVec 32 := 1#32
  let v6 : BitVec 32 := Scalar.addi v4 c1_i32_1
  let c2_i32_2 : BitVec 32 := 2#32
  let v7 : BitVec 32 := Scalar.divsi v6 c2_i32_2
  let c2_i32_3 : BitVec 32 := 2#32
  let v8 : BitVec 32 := Scalar.remsi v7 c2_i32_3
  let c0_i32_5 : BitVec 32 := 0#32
  let v15 : BitVec 1 := Scalar.cmpi .eq v8 c0_i32_5
  let c8_i32 : BitVec 32 := 8#32
  let v3 : BitVec 32 := Scalar.divsi v2 c8_i32
  let c4_i32 : BitVec 32 := 4#32
  let v9 : BitVec 32 := Scalar.muli v3 c4_i32
  let c2_i32_4 : BitVec 32 := 2#32
  let v10 : BitVec 32 := Scalar.remsi v3 c2_i32_4
  let c0_i32 : BitVec 32 := 0#32
  let v11 : BitVec 1 := Scalar.cmpi .eq v10 c0_i32
  let c2_i32 : BitVec 32 := 2#32
  let v5 : BitVec 32 := Scalar.divsi v4 c2_i32
  let c3_i32 : BitVec 32 := 3#32
  let v12 : BitVec 32 := Scalar.subi c3_i32 v5
  let v13 : BitVec 32 := Scalar.select v11 v5 v12
  let v14 : BitVec 32 := Scalar.addi v9 v13
  let c31_i32 : BitVec 32 := 31#32
  let v16 : BitVec 32 := Scalar.subi c31_i32 v14
  let v17 : BitVec 32 := Scalar.select v15 v14 v16
  let c1_i32_22 : BitVec 32 := 1#32
  let v39 : BitVec 32 := Scalar.addi v17 c1_i32_22
  let c32_i32_23 : BitVec 32 := 32#32
  let v40 : BitVec 32 := Scalar.remsi v39 c32_i32_23
  let c16_i32_24 : BitVec 32 := 16#32
  let v41 : BitVec 1 := Scalar.cmpi .slt v40 c16_i32_24
  let c31_i32_25 : BitVec 32 := 31#32
  let v42 : BitVec 32 := Scalar.subi c31_i32_25 v40
  let v43 : BitVec 32 := Scalar.select v41 v40 v42
  let c4_i32_26 : BitVec 32 := 4#32
  let v44 : BitVec 32 := Scalar.divsi v43 c4_i32_26
  let c8_i32_37 : BitVec 32 := 8#32
  let v57 : BitVec 32 := Scalar.muli v44 c8_i32_37
  let c2_i32_33 : BitVec 32 := 2#32
  let c2_i32_28 : BitVec 32 := 2#32
  let v46 : BitVec 32 := Scalar.remsi v44 c2_i32_28
  let c0_i32_29 : BitVec 32 := 0#32
  let v47 : BitVec 1 := Scalar.cmpi .eq v46 c0_i32_29
  let c4_i32_27 : BitVec 32 := 4#32
  let v45 : BitVec 32 := Scalar.remsi v43 c4_i32_27
  let c3_i32_30 : BitVec 32 := 3#32
  let v48 : BitVec 32 := Scalar.subi c3_i32_30 v45
  let v49 : BitVec 32 := Scalar.select v47 v45 v48
  let v51 : BitVec 32 := Scalar.muli c2_i32_33 v49
  let c2_i32_34 : BitVec 32 := 2#32
  let v52 : BitVec 32 := Scalar.remsi v49 c2_i32_34
  let c0_i32_35 : BitVec 32 := 0#32
  let v53 : BitVec 1 := Scalar.cmpi .eq v52 c0_i32_35
  let c0_i32_31 : BitVec 32 := 0#32
  let c1_i32_32 : BitVec 32 := 1#32
  let v50 : BitVec 32 := Scalar.select v41 c0_i32_31 c1_i32_32
  let c1_i32_36 : BitVec 32 := 1#32
  let v54 : BitVec 32 := Scalar.subi c1_i32_36 v50
  let v55 : BitVec 32 := Scalar.select v53 v50 v54
  let v56 : BitVec 32 := Scalar.addi v51 v55
  let v58 : BitVec 32 := Scalar.addi v57 v56
  let c1_i32_6696 : BitVec 32 := 1#32
  let v5551 : BitVec 32 := Scalar.muli v58 c1_i32_6696
  let v5552 : BitVec 32 := Scalar.addi c0_i32_6697 v5551
  v5552.toNat
abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Flow.lean ====
/-
The kernel's body read as two flows of tiles round the ring.

Every device owns a block row of the result. Flow `false` carries partial sums from a device to the
one on its right, flow `true` to the one on its left; each partial sum is 64 rows by 2048 columns and
travels as four tiles of 512 columns. This module names the buffers' slots, the semaphores, the values
and the program of one tile, step after step, and says that the printed body is that program.
-/
module

public import proofs.«01_k».proof.Proof.Gen.KernelIdeal

@[expose] public section

noncomputable section

namespace Cert.Ring

open Cert.KernelIdeal Cert.KernelIdeal.Gen
open Idealize.ShloMosaic Idealize.SL.Sem

variable {F : FTy → Type} [FloatOps F]

/-! ## The ring -/

set_option backward.proofsInPublic true in
/-- The device on the right in the ring's order. -/
def right (c : Dev nD) : Dev nD := ⟨k0_dev3 c, k0_dev3_lt c⟩
set_option backward.proofsInPublic true in
/-- The device on the left in the ring's order. -/
def left (c : Dev nD) : Dev nD := ⟨k0_dev4 c, k0_dev4_lt c⟩

/-- Where a flow sends to. -/
def tgt : Bool → Dev nD → Dev nD
  | false, c => right c
  | true, c => left c

/-- Where a flow receives from. -/
def src : Bool → Dev nD → Dev nD
  | false, c => left c
  | true, c => right c

/-- How many transfers each tile of a flow makes. -/
def cnt : Bool → ℕ
  | false => 16
  | true => 15

/-! ## The buffers and their slots -/

/-- The block of the left factor, the block of the right factor and the block of the result. -/
abbrev xM : Memref sig .tc .vmem S2048x64 .bf16 := Memref.whole cc0_stg0_0
abbrev wM : Memref sig .tc .vmem S64x2048 .bf16 := Memref.whole cc0_stg1_0
abbrev oM : Memref sig .tc .vmem S64x2048 .f32 := Memref.whole cc0_stg2_0

/-- A flow's landing buffer: two slots of four tiles. -/
def recvRef : Bool → Ref sig .tc
  | false => cc0_scratch0
  | true => cc0_scratch2
/-- A flow's send buffer: four tiles. -/
def sendRef : Bool → Ref sig .tc
  | false => cc0_scratch1
  | true => cc0_scratch3

def recvM : Bool → Memref sig .tc .vmem S2x4x64x512 .bf16
  | false => Memref.whole cc0_scratch0
  | true => Memref.whole cc0_scratch2
def sendM : Bool → Memref sig .tc .vmem S4x64x512 .bf16
  | false => Memref.whole cc0_scratch1
  | true => Memref.whole cc0_scratch3

theorem recvM_isWhole : ∀ f, (recvM f).IsWhole
  | false => Memref.isWhole_whole _
  | true => Memref.isWhole_whole _
theorem sendM_isWhole : ∀ f, (sendM f).IsWhole
  | false => Memref.isWhole_whole _
  | true => Memref.isWhole_whole _

theorem slot_inb : ∀ (sl : Fin 2) (t : Fin 4), ∀ a,
    (![sl.val, t.val, 0, 0] : Fin 4 → ℕ) a + S1x1x64x512.size a ≤ S2x4x64x512.size a := by decide
theorem tile_inb : ∀ (t : Fin 4), ∀ a,
    (![t.val, 0, 0] : Fin 3 → ℕ) a + S1x64x512.size a ≤ S4x64x512.size a := by decide
theorem out_inb : ∀ (t : Fin 4), ∀ a,
    (![0, 512 * t.val] : Fin 2 → ℕ) a + S64x512.size a ≤ S64x2048.size a := by decide
theorem sem2_inb : ∀ (sl : Fin 2) (t : Fin 4), ∀ a,
    (![sl.val, t.val] : Fin 2 → ℕ) a + S1x1.size a ≤ S2x4.size a := by decide
theorem sem1_inb : ∀ (t : Fin 4), ∀ a, (![t.val] : Fin 1 → ℕ) a + S1.size a ≤ S4.size a := by decide

set_option backward.proofsInPublic true in
/-- Tile `t` of slot `sl` of a landing buffer. -/
abbrev slotRect (sl : Fin 2) (t : Fin 4) : Rect S2x4x64x512 :=
  Rect.unit (s := S2x4x64x512) ![sl.val, t.val, 0, 0] S1x1x64x512.size (slot_inb sl t)
set_option backward.proofsInPublic true in
/-- Tile `t` of a send buffer. -/
abbrev tileRect (t : Fin 4) : Rect S4x64x512 :=
  Rect.unit (s := S4x64x512) ![t.val, 0, 0] S1x64x512.size (tile_inb t)
set_option backward.proofsInPublic true in
/-- Columns `512 t … 512 t + 511` of the result's block. -/
abbrev outRect (t : Fin 4) : Rect S64x2048 :=
  Rect.unit (s := S64x2048) ![0, 512 * t.val] S64x512.size (out_inb t)

def recvV (f : Bool) (sl : Fin 2) (t : Fin 4) : Memref sig .tc .vmem S64x512 .bf16 :=
  ((recvM f).slice (slotRect sl t) (fun _ => rfl)).squeeze S64x512 Facts₀.squeezes_S1x1x64x512_S64x512
def sendV (f : Bool) (t : Fin 4) : Memref sig .tc .vmem S64x512 .bf16 :=
  ((sendM f).slice (tileRect t) (fun _ => rfl)).squeeze S64x512 Facts₀.squeezes_S1x64x512_S64x512

/-! ## The semaphores -/

def sendSems : Bool → DmaSems sig S4
  | false => cc0_scratch4
  | true => cc0_scratch6
def recvSems : Bool → DmaSems sig S2x4
  | false => cc0_scratch5
  | true => cc0_scratch7
def credSems : Bool → Sems sig S2x4
  | false => cc0_scratch8
  | true => cc0_scratch9

set_option backward.proofsInPublic true in
def sendS (f : Bool) (t : Fin 4) : DmaSem sig :=
  (((sendSems f).slice (Rect.unit (s := S4) ![t.val] S1.size (sem1_inb t))).squeeze S_ Facts₀.squeezes_S1_S_).sem
set_option backward.proofsInPublic true in
def recvS (f : Bool) (sl : Fin 2) (t : Fin 4) : DmaSem sig :=
  (((recvSems f).slice (Rect.unit (s := S2x4) ![sl.val, t.val] S1x1.size (sem2_inb sl t))).squeeze S_
    Facts₀.squeezes_S1x1_S_).sem
set_option backward.proofsInPublic true in
def credS (f : Bool) (sl : Fin 2) (t : Fin 4) : Sem sig :=
  (((credSems f).slice (Rect.unit (s := S2x4) ![sl.val, t.val] S1x1.size (sem2_inb sl t))).squeeze S_
    Facts₀.squeezes_S1x1_S_).sem
def barS : Sem sig := (SemArray.scalar (sig.barrier 0 rfl) : Sems sig S_).sem

/-! ## The side conditions, for every slot and tile -/

theorem slot_words : ∀ (sl : Fin 2) (t : Fin 4), (slotRect sl t).WholeWords (EltTy.packing .bf16)
  | 0, 0 => Facts₀.wordsbf16_S2x4x64x512_S1x1x64x512_0_0_0_0
  | 0, 1 => Facts₀.wordsbf16_S2x4x64x512_S1x1x64x512_0_1_0_0
  | 0, 2 => Facts₀.wordsbf16_S2x4x64x512_S1x1x64x512_0_2_0_0
  | 0, 3 => Facts₀.wordsbf16_S2x4x64x512_S1x1x64x512_0_3_0_0
  | 1, 0 => Facts₀.wordsbf16_S2x4x64x512_S1x1x64x512_1_0_0_0
  | 1, 1 => Facts₀.wordsbf16_S2x4x64x512_S1x1x64x512_1_1_0_0
  | 1, 2 => Facts₀.wordsbf16_S2x4x64x512_S1x1x64x512_1_2_0_0
  | 1, 3 => Facts₀.wordsbf16_S2x4x64x512_S1x1x64x512_1_3_0_0
theorem tile_words : ∀ (t : Fin 4), (tileRect t).WholeWords (EltTy.packing .bf16)
  | 0 => Facts₀.wordsbf16_S4x64x512_S1x64x512_0_0_0
  | 1 => Facts₀.wordsbf16_S4x64x512_S1x64x512_1_0_0
  | 2 => Facts₀.wordsbf16_S4x64x512_S1x64x512_2_0_0
  | 3 => Facts₀.wordsbf16_S4x64x512_S1x64x512_3_0_0
theorem tile_packed : ∀ (t : Fin 4), (tileRect t).PackedRows (EltTy.packing .bf16)
  | 0 => Facts₀.packedbf16_S4x64x512_S1x64x512_0_0_0
  | 1 => Facts₀.packedbf16_S4x64x512_S1x64x512_1_0_0
  | 2 => Facts₀.packedbf16_S4x64x512_S1x64x512_2_0_0
  | 3 => Facts₀.packedbf16_S4x64x512_S1x64x512_3_0_0
theorem tile_slices : ∀ t : Fin 4, S64x2048.Slices ![0, 512 * t.val] S64x512
  | 0 => Facts₀.slices_S64x2048_o0_0_S64x512
  | 1 => Facts₀.slices_S64x2048_o0_512_S64x512
  | 2 => Facts₀.slices_S64x2048_o0_1024_S64x512
  | 3 => Facts₀.slices_S64x2048_o0_1536_S64x512

/-! ## The values -/

set_option backward.proofsInPublic true in
/-- A chunk of 64 rows of the left factor's block times the right factor's block. -/
def prod (x : Vec F S64x64 .bf16) (w : Vec F S64x2048 .bf16) : FVec F S64x2048 .f32 :=
  matmul dot_S64x64_S64x2048_S64x2048_1_0_0_1_n_n none
    (shapeCast S64x64 x Facts₀.shapeCasts_S64x64_S64x64)
    (shapeCast S64x2048 w Facts₀.shapeCasts_S64x2048_S64x2048)
    (constant S64x2048 .f32 0x00000000#32)

set_option backward.proofsInPublic true in
/-- Tile `t` of a product. -/
def tileOf (t : Fin 4) (p : FVec F S64x2048 .f32) : FVec F S64x512 .f32 :=
  extractStridedSlice S64x512 ![0, 512 * t.val] p (tile_slices t)

/-- A tile as it is stored for sending. -/
def boxed (a : FVec F S64x512 .f32) : FVec F S1x64x512 .bf16 :=
  shapeCast S1x64x512 (truncf .bf16 a Facts₀.bitsLt_bf16_f32) Facts₀.shapeCasts_S64x512_S1x64x512

/-- A received tile, widened. -/
def widen (v : Vec F S1x1x64x512 .bf16) : FVec F S64x512 .f32 :=
  extf .f32 (shapeCast S64x512 v Facts₀.shapeCasts_S1x1x64x512_S64x512 : FVec F S64x512 .bf16)
    Facts₀.bitsLt_bf16_f32

/-- A received tile with the device's own product added. -/
def acc (v : Vec F S1x1x64x512 .bf16) (p : FVec F S64x2048 .f32) (t : Fin 4) : FVec F S64x512 .f32 :=
  addf (widen v) (tileOf t p)

/-- The activation, as the kernel spells it. -/
def act (y : FVec F S64x512 .f32) : FVec F S64x512 .f32 :=
  mulf (mulf (broadcast S64x512 (Scalar.ofBits .f32 0x3F000000#32 : F .f32)) y)
    (addf (broadcast S64x512 (Scalar.ofBits .f32 0x3F800000#32 : F .f32))
      (tanh (mulf (broadcast S64x512 (Scalar.ofBits .f32 0x3F4C422A#32 : F .f32))
        (addf y (mulf (mulf (mulf (broadcast S64x512 (Scalar.ofBits .f32 0x3D372713#32 : F .f32)) y) y) y)))))

/-! ## The program, tile by tile -/

/-- A program of one device's core. -/
abbrev Pg (F : FTy → Type) [FloatOps F] := Prog (TpuEff nD τ sig (Elt F) Λ₀ .tc) PUnit

set_option backward.proofsInPublic true in
/-- Read 64 rows of the left factor's block (the rows the device `d` reads at offset word `r`) and the
    right factor's block, and go on with their product. -/
def product (d : Dev nD) (r : Fin 32) (k : FVec F S64x2048 .f32 → Pg F) : Pg F :=
  .op (.load xM (Rect.unit (s := S2048x64) (k0_off1 d (BitVec.ofNat 32 (4294967264 + r.val))) S64x64.size
      (k0_off1_inb d r)).toLoadRect (View.loadsAt_vmem Facts₀.h_S64x64)) fun x =>
  .op (.load wM (Rect.unit (s := S64x2048) ![0, 0] S64x2048.size
      Facts₀.inb_S64x2048_S64x2048_0_0).toLoadRect (View.loadsAt_vmem Facts₀.h_S64x2048)) fun w =>
  k (prod x w)

set_option backward.proofsInPublic true in
/-- Store a tile to send (the tile's old contents are read and dropped first). -/
def stage (f : Bool) (t : Fin 4) (a : FVec F S64x512 .f32) (k : Pg F) : Pg F :=
  .op (.load (sendM f) (tileRect t).toLoadRect (View.loadsAt_vmem Facts₀.h_S1x64x512)) fun _ =>
  .op (.store (sendM f) (tileRect t) (boxed a) Finset.univ
    (View.stores_vmem Facts₀.h_S1x64x512 ((sendM_isWhole f).storeExact_slice rfl _ (tile_packed t)) (fun _ => rfl))
    (.inl rfl)) fun _ => k

set_option backward.proofsInPublic true in
/-- Send tile `t` into slot `sl` of the flow's next device. -/
def send (d : Dev nD) (f : Bool) (sl : Fin 2) (t : Fin 4) (k : Pg F) : Pg F :=
  .op (.enqueueDma (sendV f t) (.remote (Dev.tc (tgt f d)) (recvV f sl t) (.dma (sendS f t)))
    (.dma (recvS f sl t))
    (((sendM_isWhole f).wordExact_slice rfl _ (tile_words t)).reshape _ _)
    (((recvM_isWhole f).wordExact_slice rfl _ (slot_words sl t)).reshape _ _)
    ⟨⟨rfl, Or.inl rfl⟩, trivial⟩) fun _ => k

set_option backward.proofsInPublic true in
/-- Wait until tile `t` has landed in slot `sl`, and read it. -/
def receive (f : Bool) (sl : Fin 2) (t : Fin 4) (k : Vec F S1x1x64x512 .bf16 → Pg F) : Pg F :=
  .op (.waitDma2 (recvS f sl t) (sendV f t) (recvV f sl t)
    (((sendM_isWhole f).wordExact_slice rfl _ (tile_words t)).reshape _ _)
    (((recvM_isWhole f).wordExact_slice rfl _ (slot_words sl t)).reshape _ _)) fun _ =>
  .op (.load (recvM f) (slotRect sl t).toLoadRect (View.loadsAt_vmem Facts₀.h_S1x1x64x512)) fun v => k v

set_option backward.proofsInPublic true in
/-- Wait until tile `t`, sent into slot `sl`, has left. -/
def sent (f : Bool) (sl : Fin 2) (t : Fin 4) (k : Pg F) : Pg F :=
  .op (.waitDma2 (sendS f t) (recvV f sl t) (sendV f t)
    (((recvM_isWhole f).wordExact_slice rfl _ (slot_words sl t)).reshape _ _)
    (((sendM_isWhole f).wordExact_slice rfl _ (tile_words t)).reshape _ _)) fun _ => k

/-- Wait for the credit that frees slot `sl` of the next device. -/
def await (f : Bool) (sl : Fin 2) (t : Fin 4) (k : Pg F) : Pg F :=
  .op (.semWait (credS f sl t) (1#32).toInt) fun _ => k

/-- Tell the flow's previous device that slot `sl` is free again. -/
def free (d : Dev nD) (f : Bool) (sl : Fin 2) (t : Fin 4) (k : Pg F) : Pg F :=
  .op (.semSignal (src f d, .tc) (credS f sl t) (1#32).toInt) fun _ => k

/-- The slot a step uses. -/
def slotOf (s : ℕ) : Fin 2 := ⟨s % 2, Nat.mod_lt _ (by decide)⟩

/-- One tile of one step of a flow that goes on: receive it, add the own product, send the sum on. -/
def relay (d : Dev nD) (f : Bool) (s : ℕ) (t : Fin 4) (p : FVec F S64x2048 .f32) (k : Pg F) : Pg F :=
  receive f (slotOf s) t fun v =>
  sent f (slotOf s) t <|
  stage f t (acc v p t) <|
  (if 1 ≤ s then await f (slotOf (s + 1)) t else id) <|
  send d f (slotOf (s + 1)) t <|
  (if s + 3 ≤ cnt f then free d f (slotOf s) t else id) k

/-- The four tiles of one step, the two flows in turn. -/
def relays (d : Dev nD) (s : ℕ) (pr pl : FVec F S64x2048 .f32) (k : Pg F) : Pg F :=
  relay d false s 0 pr <| relay d true s 0 pl <|
  relay d false s 1 pr <| relay d true s 1 pl <|
  relay d false s 2 pr <| relay d true s 2 pl <|
  relay d false s 3 pr <| relay d true s 3 pl k

/-- The row chunk a flow's step multiplies. -/
def chunkR (s : ℕ) (h : s ≤ 16) : Fin 32 := ⟨16 - s, by omega⟩
def chunkL (s : ℕ) (h : s ≤ 14) : Fin 32 := ⟨17 + s, by omega⟩

/-- `n` steps from step `s` on, both flows relaying. -/
def steps (d : Dev nD) : (n s : ℕ) → s + n ≤ 14 → Pg F → Pg F
  | 0, _, _, k => k
  | n + 1, s, h, k =>
    product d (chunkR (s + 1) (by omega)) fun pr =>
    product d (chunkL (s + 1) (by omega)) fun pl =>
    relays d s pr pl <| steps d n (s + 1) (by omega) k

/-- The first tiles, each flow's. -/
def opening (d : Dev nD) (t : Fin 4) (pr pl : FVec F S64x2048 .f32) (k : Pg F) : Pg F :=
  stage false t (tileOf t pr) <| stage true t (tileOf t pl) <|
  send d false 0 t <| send d true 0 t k

/-- The step at which the left flow's tiles come to rest. -/
def restL (d : Dev nD) (pr : FVec F S64x2048 .f32) (t : Fin 4) (k : Vec F S1x1x64x512 .bf16 → Pg F) : Pg F :=
  relay d false 14 t pr <| receive true 0 t k

set_option backward.proofsInPublic true in
/-- A tile of the result, once the last transfers have left. -/
def finish (t : Fin 4) (vr vl : Vec F S1x1x64x512 .bf16) (pr : FVec F S64x2048 .f32) (k : Pg F) : Pg F :=
  sent false 1 t <| sent true 0 t <|
  .op (.load oM (outRect t).toLoadRect (View.loadsAt_vmem Facts₀.h_S64x512)) fun _ =>
  .op (.store oM (outRect t) (act (addf (acc vr pr t) (widen vl))) Finset.univ
    (View.stores_vmem_bits_univ Facts₀.h_S64x512 rfl) (.inl rfl)) fun _ => k

/-- The last two steps and the result. -/
def closing (d : Dev nD) : Pg F :=
  product d (chunkR 15 (by decide)) fun pr =>
  restL d pr 0 fun l0 => restL d pr 1 fun l1 => restL d pr 2 fun l2 => restL d pr 3 fun l3 =>
  product d (chunkR 16 (by decide)) fun pr =>
  receive false 1 0 fun r0 => receive false 1 1 fun r1 => receive false 1 2 fun r2 => receive false 1 3 fun r3 =>
  finish 0 r0 l0 pr <| finish 1 r1 l1 pr <| finish 2 r2 l2 pr <| finish 3 r3 l3 pr <| .ret ⟨⟩

/-- The program after the handshake. -/
def core (d : Dev nD) : Pg F :=
  product d (chunkR 0 (by decide)) fun pr =>
  product d (chunkL 0 (by decide)) fun pl =>
  opening d 0 pr pl <| opening d 1 pr pl <| opening d 2 pr pl <| opening d 3 pr pl <|
  steps d 14 0 (by decide) <| closing d

/-- The whole program: tell both neighbours, wait for both, go on. -/
def program : Pg F :=
  .op .deviceId fun d =>
  .op (.semSignal (left d, .tc) barS (1#32).toInt) fun _ =>
  .op (.semSignal (right d, .tc) barS (1#32).toInt) fun _ =>
  .op (.semWait barS (2#32).toInt) fun _ => core d

end Cert.Ring
-- ==== Proof.Cells.lean ====
/-
The semaphores as cells of rounds, and what each round hands over.

Every device has one barrier cell; for every flow and tile a cell counting the tiles that have left its
send buffer; for every flow, slot and tile a cell counting the tiles that have landed and a cell of
credits by which the next device says that its slot is free again. Transfer number `s` of a flow's tile
is round `s` of the send cell and round `s / 2` of the cells of slot `s % 2`.
-/
module

public import proofs.«01_k».proof.Proof.Flow
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's copy and the ring's -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The neighbours -/

theorem tgt_src : ∀ (f : Bool) (c : Dev nD), tgt f (src f c) = c := by decide
theorem src_tgt : ∀ (f : Bool) (c : Dev nD), src f (tgt f c) = c := by decide

/-- Going along a flow, as a bijection of the devices. -/
def along (f : Bool) : Dev nD ≃ Dev nD := ⟨tgt f, src f, src_tgt f, tgt_src f⟩

/-! ## The cells -/

/-- A kind of cell: the barrier, or a semaphore of the kernel's own: a flow's send cell of a tile, a
    landing cell of a slot's tile, a credit cell of a slot's tile. -/
abbrev OwnK : Type := (Bool × Fin 4) ⊕ ((Bool × Fin 2 × Fin 4) ⊕ (Bool × Fin 2 × Fin 4))
abbrev CellK : Type := Unit ⊕ OwnK

instance decidableEqSlots : DecidableEq ((Bool × Fin 2 × Fin 4) ⊕ (Bool × Fin 2 × Fin 4)) := inferInstance
instance decidableEqOwnK : DecidableEq OwnK := inferInstance
instance decidableEqCellK : DecidableEq CellK := inferInstance

abbrev kBar : CellK := .inl ()
abbrev kSnd (f : Bool) (t : Fin 4) : CellK := .inr (.inl (f, t))
abbrev kRcv (f : Bool) (sl : Fin 2) (t : Fin 4) : CellK := .inr (.inr (.inl (f, sl, t)))
abbrev kCrd (f : Bool) (sl : Fin 2) (t : Fin 4) : CellK := .inr (.inr (.inr (f, sl, t)))

/-- The semaphore of a kind. -/
def osem : OwnK → SemLoc sig
  | .inl (f, t) => .dma (sendS f t)
  | .inr (.inl (f, sl, t)) => .dma (recvS f sl t)
  | .inr (.inr (f, sl, t)) => .reg (credS f sl t)
def csem : CellK → SemLoc sig
  | .inl _ => .reg barS
  | .inr k => osem k

/-- The kind of a semaphore; the pipeline's own have none. -/
def kindOf : SemLoc sig → Option CellK
  | .reg i =>
    if i.val < 16 then some (kCrd (decide (8 ≤ i.val)) ⟨i.val / 4 % 2, Nat.mod_lt _ (by decide)⟩ ⟨i.val % 4, Nat.mod_lt _ (by decide)⟩)
    else some kBar
  | .dma i =>
    if i.val < 3 then none
    else if i.val < 7 then some (kSnd false ⟨(i.val - 3) % 4, Nat.mod_lt _ (by decide)⟩)
    else if i.val < 15 then
      some (kRcv false ⟨(i.val - 7) / 4 % 2, Nat.mod_lt _ (by decide)⟩ ⟨(i.val - 7) % 4, Nat.mod_lt _ (by decide)⟩)
    else if i.val < 19 then some (kSnd true ⟨(i.val - 15) % 4, Nat.mod_lt _ (by decide)⟩)
    else some (kRcv true ⟨(i.val - 19) / 4 % 2, Nat.mod_lt _ (by decide)⟩ ⟨(i.val - 19) % 4, Nat.mod_lt _ (by decide)⟩)

theorem kindOf_snd : ∀ (f : Bool) (t : Fin 4), kindOf (.dma (sendS f t)) = some (kSnd f t) := by
  intro f t; cases f <;> fin_cases t <;> rfl
theorem kindOf_rcv : ∀ (f : Bool) (sl : Fin 2) (t : Fin 4), kindOf (.dma (recvS f sl t)) = some (kRcv f sl t) := by
  intro f sl t; cases f <;> fin_cases sl <;> fin_cases t <;> rfl
theorem kindOf_crd : ∀ (f : Bool) (sl : Fin 2) (t : Fin 4), kindOf (.reg (credS f sl t)) = some (kCrd f sl t) := by
  intro f sl t; cases f <;> fin_cases sl <;> fin_cases t <;> rfl
theorem kindOf_csem : ∀ k : CellK, kindOf (csem k) = some k
  | .inl _ => rfl
  | .inr (.inl (f, t)) => kindOf_snd f t
  | .inr (.inr (.inl (f, sl, t))) => kindOf_rcv f sl t
  | .inr (.inr (.inr (f, sl, t))) => kindOf_crd f sl t

theorem csem_injective : Function.Injective csem := fun a b h => by
  have := congrArg kindOf h
  rw [kindOf_csem, kindOf_csem] at this
  exact Option.some.inj this

/-- The cell of a kind on a device. -/
abbrev cell (c : Dev nD) (k : CellK) : GSem nD τ sig := ((c : Thread nD τ), csem k)

/-! ## The values -/

/-- The row chunk a flow's step multiplies. -/
def chunk : Bool → ℕ → Fin 32
  | false, s => ⟨16 - s, by omega⟩
  | true, s => ⟨(17 + s) % 32, Nat.mod_lt _ (by decide)⟩

theorem chunkR_eq (s : ℕ) (h : s ≤ 16) : chunkR s h = chunk false s := rfl
theorem chunkL_eq (s : ℕ) (h : s ≤ 14) : chunkL s h = chunk true s := by
  refine Fin.ext ?_
  show 17 + s = (17 + s) % 32
  omega

variable (xs : Dev nD → (cc0_stg0_0 : Ref sig .tc).ty.Contents (Elt F))
variable (ws : Dev nD → (cc0_stg1_0 : Ref sig .tc).ty.Contents (Elt F))

set_option backward.proofsInPublic true in
/-- The product of a row chunk of a device's blocks. -/
def prodAt (r : Fin 32) (c : Dev nD) : FVec F S64x2048 .f32 :=
  prod (xM.view.readAt (Elt F) (Rect.unit (s := S2048x64) (k0_off1 c (BitVec.ofNat 32 (4294967264 + r.val))) S64x64.size
      (k0_off1_inb c r)).toLoadRect (xs c))
    (wM.view.readAt (Elt F) (Rect.unit (s := S64x2048) ![0, 0] S64x2048.size Facts₀.inb_S64x2048_S64x2048_0_0).toLoadRect (ws c))

/-- What device `c` sends as transfer `s` of a flow's tile: its own product for `s = 0`, what it received
    as transfer `s - 1` with its own product added afterwards. -/
def sentVal (f : Bool) : ℕ → Dev nD → Fin 4 → FVec F S64x512 .bf16
  | 0, c, t => truncf .bf16 (tileOf t (prodAt xs ws (chunk f 0) c)) Facts₀.bitsLt_bf16_f32
  | s + 1, c, t => truncf .bf16 (addf (extf .f32 (sentVal f s (src f c) t) Facts₀.bitsLt_bf16_f32)
      (tileOf t (prodAt xs ws (chunk f (s + 1)) c))) Facts₀.bitsLt_bf16_f32

/-! ## The buffers' parts -/

/-- Device `c` holds tile `t` of slot `sl` of its landing buffer, at contents `g`. -/
def slotPts (c : Dev nD) (f : Bool) (sl : Fin 2) (t : Fin 4) (g : Buf (Elt F) ((recvV f sl t).view.loc (c : Thread nD τ))) : sProp 𝕄 :=
  (recvV f sl t).view.loc (c : Thread nD τ) ↦[(recvV f sl t).view.set]{fullShare} g
/-- Device `c` holds tile `t` of its send buffer, at contents `g`. -/
def tilePts (c : Dev nD) (f : Bool) (t : Fin 4) (g : Buf (Elt F) ((sendV f t).view.loc (c : Thread nD τ))) : sProp 𝕄 :=
  (sendV f t).view.loc (c : Thread nD τ) ↦[(sendV f t).view.set]{fullShare} g

/-- The same at any contents. -/
def slotAny (c : Dev nD) (f : Bool) (sl : Fin 2) (t : Fin 4) : sProp 𝕄 := iprop(∃ g, slotPts c f sl t g)
def tileAny (c : Dev nD) (f : Bool) (t : Fin 4) : sProp 𝕄 := iprop(∃ g, tilePts c f t g)

/-- The same holding a tile's value. -/
def slotHas (c : Dev nD) (f : Bool) (sl : Fin 2) (t : Fin 4) (v : FVec F S64x512 .bf16) : sProp 𝕄 :=
  iprop(∃ g, ⌜(recvV f sl t).view.read (Elt F) g = v⌝ ∗ slotPts c f sl t g)
def tileHas (c : Dev nD) (f : Bool) (t : Fin 4) (v : FVec F S64x512 .bf16) : sProp 𝕄 :=
  iprop(∃ g, ⌜(sendV f t).view.read (Elt F) g = v⌝ ∗ tilePts c f t g)

omit [FloatOps F] in
instance slotPts_storable (c : Dev nD) (f sl t g) : BI.Storable (upEmb : UEmb _ 𝕄) (slotPts (F := F) c f sl t g) := by
  unfold slotPts; infer_instance
omit [FloatOps F] in
instance tilePts_storable (c : Dev nD) (f t g) : BI.Storable (upEmb : UEmb _ 𝕄) (tilePts (F := F) c f t g) := by
  unfold tilePts; infer_instance
omit [FloatOps F] in
instance slotAny_storable (c : Dev nD) (f sl t) : BI.Storable (upEmb : UEmb _ 𝕄) (slotAny (F := F) c f sl t) := by
  unfold slotAny; infer_instance
omit [FloatOps F] in
instance tileAny_storable (c : Dev nD) (f t) : BI.Storable (upEmb : UEmb _ 𝕄) (tileAny (F := F) c f t) := by
  unfold tileAny; infer_instance
omit [FloatOps F] in
instance slotHas_storable (c : Dev nD) (f sl t v) : BI.Storable (upEmb : UEmb _ 𝕄) (slotHas (F := F) c f sl t v) := by
  unfold slotHas; infer_instance

omit [FloatOps F] in
theorem slotHas_any (c : Dev nD) (f : Bool) (sl : Fin 2) (t : Fin 4) (v : FVec F S64x512 .bf16) :
    (slotHas (F := F) c f sl t v : sProp 𝕄) ⊢ slotAny c f sl t := by
  unfold slotHas slotAny
  iintro ⟨%g, -, H⟩
  iexists g; iexact H
omit [FloatOps F] in
theorem tileHas_any (c : Dev nD) (f : Bool) (t : Fin 4) (v : FVec F S64x512 .bf16) :
    (tileHas (F := F) c f t v : sProp 𝕄) ⊢ tileAny c f t := by
  unfold tileHas tileAny
  iintro ⟨%g, -, H⟩
  iexists g; iexact H

/-! ## The schedule -/

/-- The credit one tile's transfer counts. -/
def N : ℕ := (recvV false 0 0).view.dmaCredit
theorem N_pos : 0 < N := View.dmaCredit_pos _ (by decide)
theorem credit_recv (f : Bool) (sl : Fin 2) (t : Fin 4) : (recvV f sl t).view.dmaCredit = N := by
  cases f <;> rfl
theorem credit_send (f : Bool) (t : Fin 4) : (sendV f t).view.dmaCredit = N := by
  cases f <;> rfl

/-- What the neighbour hands over at the handshake: its whole landing buffer of the flow that sends to it. -/
def barPay (c : Dev nD) (f : Bool) : sProp 𝕄 :=
  bigSep Finset.univ fun t : Fin 4 => iprop(slotAny (F := F) (tgt f c) f 0 t ∗ slotAny (F := F) (tgt f c) f 1 t)
/-- What transfer `s` hands over when it lands: the slot holding the tile, and that the sender's credit
    cell of the slot has reached the round of this transfer. -/
def rcvPay (c : Dev nD) (f : Bool) (sl : Fin 2) (t : Fin 4) (r : ℕ) : sProp 𝕄 :=
  iprop(slotHas c f sl t (sentVal xs ws f (2 * r + sl.val) (src f c) t) ∗ reached ER (cell (src f c) (kCrd f sl t)) r)
/-- What a credit hands over: the next device's slot, and that its landing cell has reached the next round. -/
def crdPay (c : Dev nD) (f : Bool) (sl : Fin 2) (t : Fin 4) (r : ℕ) : sProp 𝕄 :=
  iprop(slotAny (F := F) (tgt f c) f sl t ∗ reached ER (cell (tgt f c) (kRcv f sl t)) (r + 1))

/-- The duties of a round of a cell: the barrier's one round has one for each neighbour; a transfer or
    a credit has one, for the rounds there are. -/
def dutyK : CellK → ℕ → Finset Bool
  | .inl _, r => if r = 0 then Finset.univ else ∅
  | .inr (.inl (f, _)), r => if r < cnt f then {false} else ∅
  | .inr (.inr (.inl (f, sl, _))), r => if 2 * r + sl.val < cnt f then {false} else ∅
  | .inr (.inr (.inr (f, sl, _))), r => if 2 * r + sl.val + 3 ≤ cnt f then {false} else ∅

def amtK : CellK → ℕ
  | .inl _ => 1
  | .inr (.inl _) => N
  | .inr (.inr (.inl _)) => N
  | .inr (.inr (.inr _)) => 1

def payK (c : Dev nD) : CellK → ℕ → Bool → sProp 𝕄
  | .inl _, _, d => barPay c d
  | .inr (.inl (f, t)), _, _ => tileAny c f t
  | .inr (.inr (.inl (f, sl, t))), r, _ => rcvPay xs ws c f sl t r
  | .inr (.inr (.inr (f, sl, t))), r, _ => crdPay c f sl t r

theorem amtK_pos : ∀ k, 0 < amtK k
  | .inl _ => Nat.one_pos
  | .inr (.inl _) => N_pos
  | .inr (.inr (.inl _)) => N_pos
  | .inr (.inr (.inr _)) => Nat.one_pos

def ringRd : Rounds.Schedule (GSem nD τ sig) Bool 𝕄 where
  duties g r := if g.1.2 = .tc then (kindOf g.2).elim ∅ (fun k => dutyK k r) else ∅
  unitless _ := False
  amount g _ _ := (kindOf g.2).elim 1 amtK
  payload g r d := (kindOf g.2).elim iprop(emp) fun k => payK xs ws g.1.1 k r d
  amount_pos g _ _ _ := by
    cases kindOf g.2 with
    | none => exact Nat.one_pos
    | some k => exact amtK_pos k

instance payK_storable (c : Dev nD) (k : CellK) (r : ℕ) (d : Bool) : BI.Storable (upEmb : UEmb _ 𝕄) (payK (F := F) xs ws c k r d) := by
  rcases k with _ | ⟨f, t⟩ | ⟨f, sl, t⟩ | ⟨f, sl, t⟩ <;> unfold payK
  · unfold barPay; infer_instance
  · infer_instance
  · unfold rcvPay; infer_instance
  · unfold crdPay; infer_instance

instance ringRd_payload_storable (g : GSem nD τ sig) (r : ℕ) (d : Bool) :
    BI.Storable (upEmb : UEmb _ 𝕄) ((ringRd (F := F) xs ws).payload g r d) := by
  show BI.Storable upEmb ((kindOf g.2).elim iprop(emp) fun k => payK xs ws g.1.1 k r d)
  cases kindOf g.2 with
  | none => show BI.Storable upEmb iprop(emp); infer_instance
  | some k => show BI.Storable upEmb (payK xs ws g.1.1 k r d); infer_instance

theorem duties_cell (c : Dev nD) (k : CellK) (r : ℕ) : (ringRd (F := F) xs ws).duties (cell c k) r = dutyK k r := by
  dsimp only [ringRd]
  rw [if_pos rfl, kindOf_csem]; rfl
theorem amount_cell (c : Dev nD) (k : CellK) (r : ℕ) (d : Bool) : (ringRd (F := F) xs ws).amount (cell c k) r d = amtK k := by
  show (kindOf (csem k)).elim 1 amtK = _
  rw [kindOf_csem]; rfl
theorem payload_cell (c : Dev nD) (k : CellK) (r : ℕ) (d : Bool) : (ringRd (F := F) xs ws).payload (cell c k) r d = payK xs ws c k r d := by
  show (kindOf (csem k)).elim iprop(emp) (fun k => payK xs ws c k r d) = _
  rw [kindOf_csem]; rfl

theorem mem_duties {c : Dev nD} {k : CellK} {r : ℕ} {d : Bool} (h : d ∈ dutyK k r) : d ∈ (ringRd (F := F) xs ws).duties (cell c k) r := by
  rw [duties_cell]; exact h

theorem duty_snd {f : Bool} {t : Fin 4} {r : ℕ} (h : r < cnt f) : dutyK (kSnd f t) r = {false} := if_pos h
theorem duty_rcv {f : Bool} {sl : Fin 2} {t : Fin 4} {r : ℕ} (h : 2 * r + sl.val < cnt f) : dutyK (kRcv f sl t) r = {false} := if_pos h
theorem duty_crd {f : Bool} {sl : Fin 2} {t : Fin 4} {r : ℕ} (h : 2 * r + sl.val + 3 ≤ cnt f) : dutyK (kCrd f sl t) r = {false} := if_pos h

/-- A round with the one duty `false` expects its amount and hands over its payload. -/
theorem expect_one {c : Dev nD} {k : CellK} {r : ℕ} (h : dutyK k r = {false}) : (ringRd (F := F) xs ws).expect (cell c k) r = amtK k := by
  unfold Schedule.expect Schedule.amountOf
  rw [duties_cell, h, Finset.sum_singleton, amount_cell]
theorem rest_one {c : Dev nD} {k : CellK} {r : ℕ} (h : dutyK k r = {false}) :
    bigSep ((ringRd (F := F) xs ws).duties (cell c k) r \ ∅) (fun d => (ringRd (F := F) xs ws).payload (cell c k) r d) = payK xs ws c k r false := by
  rw [Finset.sdiff_empty, duties_cell, h, bigSep_singleton, payload_cell]

theorem expect_bar (c : Dev nD) : (ringRd (F := F) xs ws).expect (cell c kBar) 0 = 2 := by
  unfold Schedule.expect Schedule.amountOf
  rw [duties_cell, Finset.sum_congr rfl fun d _ => amount_cell xs ws c kBar 0 d]
  rfl
theorem rest_bar (c : Dev nD) :
    bigSep ((ringRd (F := F) xs ws).duties (cell c kBar) 0 \ ∅) (fun d => (ringRd (F := F) xs ws).payload (cell c kBar) 0 d)
      = iprop(barPay c false ∗ barPay c true) := by
  rw [Finset.sdiff_empty, duties_cell, show dutyK kBar 0 = Finset.univ from rfl,
    bigSep_univ_eq_bigSepL [false, true] (by decide) (by decide), bigSepL_cons_cons, bigSepL_singleton, payload_cell, payload_cell]
  rfl

/-! ## The levels -/

/-- A wait is allowed below everything the waiter still owes: the barrier is lowest, then the transfers
    and the credits in the order of their numbers. -/
def L (g : GSem nD τ sig) : Finset ℕ := if g.1.2 = .tc then Finset.range 64 else ∅
def levK : CellK → ℕ → ℕ
  | .inl _, _ => 1
  | .inr (.inl _), _ => 0
  | .inr (.inr (.inl _)), i => 2 * i + 2
  | .inr (.inr (.inr _)), i => 2 * i + 3
def lv (g : GSem nD τ sig) (i : ℕ) : ℕ := (kindOf g.2).elim 0 fun k => levK k i

theorem L_of_ne (g : GSem nD τ sig) (h : g.1.2 ≠ .tc) : L g = ∅ := if_neg h
theorem L_tc (c : Dev nD) (sm : SemLoc sig) : L ((c : Thread nD τ), sm) = Finset.range 64 := if_pos rfl
theorem lv_cell (c : Dev nD) (k : CellK) (i : ℕ) : lv (cell c k) i = levK k i := by
  show (kindOf (csem k)).elim 0 _ = _
  rw [kindOf_csem]; rfl

/-- Everything owed lies above level `b`. -/
def Above (b : ℕ) (O : CellTallies nD τ sig ℕ) : Prop := ∀ g i, 0 < O g i → i ∈ L g ∧ b < lv g i

theorem Above.zero (b : ℕ) : Above b 0 := fun g i h => absurd h (Nat.lt_irrefl 0)
theorem Above.add {b : ℕ} {O D : CellTallies nD τ sig ℕ} (hO : Above b O) (hD : Above b D) : Above b (O + D) := fun g i h => by
  rw [Pi.add_apply, Finsupp.add_apply] at h
  by_cases h0 : O g i = 0
  · exact hD g i (by omega)
  · exact hO g i (by omega)
theorem Above.tally {b : ℕ} {c : Dev nD} {k : CellK} {i n : ℕ} (hi : i < 64) (hb : b < levK k i) : Above b (tallyAt (cell c k) i n) := fun g j h => by
  rw [tallyAt_apply] at h
  by_cases hg : g = cell c k ∧ j = i
  · rw [hg.1, hg.2, L_tc, lv_cell]; exact ⟨Finset.mem_range.mpr hi, hb⟩
  · rw [if_neg hg] at h; exact absurd h (Nat.lt_irrefl 0)
theorem Above.mono {b b' : ℕ} {O : CellTallies nD τ sig ℕ} (h : Above b O) (hb : b' ≤ b) : Above b' O :=
  fun g i hp => ⟨(h g i hp).1, lt_of_le_of_lt hb (h g i hp).2⟩

omit [FloatOps F] in
/-- A wait at a level below everything owed is allowed. -/
theorem mayWait {b : ℕ} {c : Dev nD} {sm : SemLoc sig} {i : ℕ} {O : CellTallies nD τ sig ℕ} (hi : i < 64)
    (hl : lv ((c : Thread nD τ), sm) i ≤ b) (hO : Above b O) : (levAts L lv : sProp 𝕄) ⊢ MayWait (c : Thread nD τ) sm i O :=
  Pipeline.mayWait_of_levAts (by rw [L_tc]; exact Finset.mem_range.mpr hi) fun g j h => ⟨(hO g j h).1, lt_of_le_of_lt hl (hO g j h).2⟩

end Cert.Ring

end
-- ==== Proof.Rules.lean ====
/-
One rule for each of the program's actions on a tile: what it needs and what it leaves.
-/
module

public import proofs.«01_k».proof.Proof.Cells
public import Idealize.ShloMosaic.Lib.Pipeline.Value

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Device `c`'s core runs the program `p` and ends in `Q`. -/
abbrev WP (c : Dev nD) (p : Pg F) (Q : PUnit → sProp 𝕄) : sProp 𝕄 :=
  wp frame (wpE (defs₀ (F := F)) 𝒱₀ (c : Thread nD τ) none) Set.univ p Q

/-! ## Views -/

theorem sendV_set (f : Bool) (t : Fin 4) : (sendV f t).view.set = ((sendM f).access (tileRect t)).set :=
  View.set_reshape _ _
theorem recvV_set (f : Bool) (sl : Fin 2) (t : Fin 4) : (recvV f sl t).view.set = ((recvM f).access (slotRect sl t)).set :=
  View.set_reshape _ _

theorem casts_tile : S1x64x512.ShapeCasts S64x512 := by decide

/-- What a slot's view reads is the loaded tile without its two unit axes. -/
theorem recvV_read (f : Bool) (sl : Fin 2) (t : Fin 4) (g : (recvM f).view.ty.Contents (Elt F)) :
    (recvV f sl t).view.read (Elt F) g
      = shapeCast S64x512 (((recvM f).access (slotRect sl t)).read (Elt F) g) Facts₀.shapeCasts_S1x1x64x512_S64x512 := rfl
theorem sendV_read (f : Bool) (t : Fin 4) (g : (sendM f).view.ty.Contents (Elt F)) :
    (sendV f t).view.read (Elt F) g
      = shapeCast S64x512 (((sendM f).access (tileRect t)).read (Elt F) g) casts_tile := rfl

/-- A stored tile reads back as the tile, rounded. -/
theorem sendV_read_stored (f : Bool) (t : Fin 4) (g : (sendM f).view.ty.Contents (Elt F)) (a : FVec F S64x512 .f32) :
    (sendV f t).view.read (Elt F) (((sendM f).access (tileRect t)).write (Elt F) g (boxed a) Finset.univ)
      = truncf .bf16 a Facts₀.bitsLt_bf16_f32 := by
  rw [sendV_read, View.read_write_univ]
  exact shapeCast_shapeCast (truncf .bf16 a Facts₀.bitsLt_bf16_f32) Facts₀.shapeCasts_S64x512_S1x64x512 casts_tile

omit [FloatOps F] in
theorem tilePts_eq (c : Dev nD) (f : Bool) (t : Fin 4) (g : (sendM f).view.ty.Contents (Elt F)) :
    (tilePts (F := F) c f t g : sProp 𝕄)
      = (((sendM f).access (tileRect t)).loc (c : Thread nD τ) ↦[((sendM f).access (tileRect t)).set]{fullShare} g) :=
  congrArg (fun S => (((sendM f).access (tileRect t)).loc (c : Thread nD τ) ↦[S]{fullShare} g : sProp 𝕄)) (sendV_set f t)
omit [FloatOps F] in
theorem slotPts_eq (c : Dev nD) (f : Bool) (sl : Fin 2) (t : Fin 4) (g : (recvM f).view.ty.Contents (Elt F)) :
    (slotPts (F := F) c f sl t g : sProp 𝕄)
      = (((recvM f).access (slotRect sl t)).loc (c : Thread nD τ) ↦[((recvM f).access (slotRect sl t)).set]{fullShare} g) :=
  congrArg (fun S => (((recvM f).access (slotRect sl t)).loc (c : Thread nD τ) ↦[S]{fullShare} g : sProp 𝕄)) (recvV_set f sl t)

/-! ## The records every device reads -/

variable (xs : Dev nD → (cc0_stg0_0 : Ref sig .tc).ty.Contents (Elt F))
variable (ws : Dev nD → (cc0_stg1_0 : Ref sig .tc).ty.Contents (Elt F))
variable (K : Dev nD × CellK → ℕ)

/-- Every cell's invariant, that every cell has reached its round 0, and the levels. -/
def recs : sProp 𝕄 :=
  iprop((bigSep Finset.univ fun ck : Dev nD × CellK => cellInv ER (ringRd xs ws) (K ck) (cell ck.1 ck.2))
    ∗ (bigSep Finset.univ fun ck : Dev nD × CellK => reached ER (cell ck.1 ck.2) 0) ∗ levAts L lv)

instance recs_persistent : BI.Persistent (recs xs ws K) := by unfold recs; infer_instance

omit [FloatOps F] in
theorem at_elem (Φ : Dev nD × CellK → sProp 𝕄) (ck : Dev nD × CellK) : bigSep Finset.univ Φ ⊢ Φ ck := bigSep_elim (Finset.mem_univ ck)

theorem recs_inv (c : Dev nD) (k : CellK) : recs xs ws K ⊢ cellInv ER (ringRd xs ws) (K (c, k)) (cell c k) := by
  unfold recs
  iintro ⟨H, -, -⟩
  iapply (at_elem (F := F) (fun ck : Dev nD × CellK => cellInv ER (ringRd xs ws) (K ck) (cell ck.1 ck.2)) (c, k))
  iexact H
theorem recs_reached (c : Dev nD) (k : CellK) : recs xs ws K ⊢ reached ER (cell c k) 0 := by
  unfold recs
  iintro ⟨-, H, -⟩
  iapply (at_elem (F := F) (fun ck : Dev nD × CellK => reached ER (cell ck.1 ck.2) 0) (c, k))
  iexact H
theorem recs_lev : recs xs ws K ⊢ levAts L lv := by
  unfold recs
  iintro ⟨-, -, H⟩
  iexact H

/-- What device `c` still owes, whatever it has waited for. -/
def owesE (c : Dev nD) (O : CellTallies nD τ sig ℕ) : sProp 𝕄 := iprop(∃ W, owes (c : Thread nD τ) O W)

/-- Device `c` stands at the start of round `r` of one of its cells. -/
abbrev at₀ (c : Dev nD) (k : CellK) (r : ℕ) : sProp 𝕄 := atPos ER (cell c k) r ∅ 0

/-! ## The rules -/

set_option maxRecDepth 20000 in
theorem recs_mayWait (c : Dev nD) (k : CellK) {i : ℕ} (hi : i < 64) {O : CellTallies nD τ sig ℕ} (hO : Above (levK k i) O) :
    recs xs ws K ⊢ MayWait (c : Thread nD τ) (csem k) i O :=
  (recs_lev xs ws K).trans (mayWait (b := levK k i) hi (le_of_eq (lv_cell c k i)) hO)

/-- Waiting out a round with one duty. -/
theorem wp_wait_one (c : Dev nD) (k : CellK) (r i : ℕ) {n : ℕ} {sm : SemLoc sig} {w : TpuEff nD τ sig (Elt F) Λ₀ .tc PUnit}
    (hw : ∀ K' : PUnit → sProp 𝕄, wpE (defs₀ (F := F)) 𝒱₀ (c : Thread nD τ) none Set.univ w K'
      = waitSpec (c : Thread nD τ) Set.univ sm n K')
    (hsm : sm = csem k) (hn : n = amtK k) (hd : dutyK k r = {false}) (hi : i < 64)
    {O : CellTallies nD τ sig ℕ} (hO : Above (levK k i) O) (p : PUnit → Pg F) (Q : PUnit → sProp 𝕄) :
    iprop(recs xs ws K ∗ cred (tallyAt (cell c k) i (amtK k)) ∗ owesE c O ∗ at₀ c k r)
      ⊢ iprop(((owesE c O ∗ at₀ c k (r + 1) ∗ reached ER (cell c k) (r + 1) ∗ payK xs ws c k r false) -∗ WP c (p ⟨⟩) Q)
        -∗ WP c (.op w p) Q) := by
  subst hn hsm
  unfold owesE
  iintro ⟨#HR, Hc, ⟨%W, HO⟩, Hat⟩ Hk
  iapply (Rounds.wp_wait_rest_token 𝒱₀ ER (ringRd xs ws) (c : Thread nD τ) none (κ := K (c, k)) hw (Set.mem_univ _) i
      (O := O) (W := W) (R := r) (m := 0) (T := ∅) (by rw [Nat.zero_add]; exact (expect_one xs ws hd).symm)) $$ [Hc HO Hat]
  · isplitr; · iapply (recs_inv xs ws K c k); iexact HR
    isplitl [Hc]; · iexact Hc
    isplitl [HO]; · iexact HO
    isplitr
    · iapply (recs_mayWait xs ws K c k hi hO); iexact HR
    iexact Hat
  iintro ⟨HO, Hat, Hr, Hpay⟩
  ihave Hp := (Entails.of_eq (rest_one xs ws hd)) $$ Hpay
  iapply Hk
  isplitl [HO]; · iexists _; iexact HO
  isplitl [Hat]; · iexact Hat
  isplitl [Hr]; · iexact Hr
  iexact Hp

theorem slot_idx (s : ℕ) : 2 * (s / 2) + (slotOf s).val = s := by
  show 2 * (s / 2) + s % 2 = s
  omega

/-- Wait for the landing of transfer `s`. -/
theorem wp_landed (c : Dev nD) (f : Bool) (s : ℕ) (t : Fin 4) (hs : s < cnt f) (hs' : s < 64)
    {O : CellTallies nD τ sig ℕ} (hO : Above (2 * s + 2) O) {h₁ : (sendV f t).view.WordExact} {h₂ : (recvV f (slotOf s) t).view.WordExact}
    (p : PUnit → Pg F) (Q : PUnit → sProp 𝕄) :
    iprop(recs xs ws K ∗ cred (tallyAt (cell c (kRcv f (slotOf s) t)) s N) ∗ owesE c O ∗ at₀ c (kRcv f (slotOf s) t) (s / 2))
      ⊢ iprop(((owesE c O ∗ at₀ c (kRcv f (slotOf s) t) (s / 2 + 1) ∗ reached ER (cell c (kRcv f (slotOf s) t)) (s / 2 + 1)
            ∗ rcvPay xs ws c f (slotOf s) t (s / 2)) -∗ WP c (p ⟨⟩) Q)
        -∗ WP c (.op (.waitDma2 (recvS f (slotOf s) t) (sendV f t) (recvV f (slotOf s) t) h₁ h₂) p) Q) :=
  wp_wait_one xs ws K c (kRcv f (slotOf s) t) (s / 2) s (wpE_waitDma2_eq 𝒱₀ (c : Thread nD τ) none Set.univ) rfl
      (credit_recv f (slotOf s) t) (duty_rcv (by rw [slot_idx]; exact hs)) hs' hO p Q

/-- Receive transfer `s`. -/
theorem wp_receive (c : Dev nD) (f : Bool) (s : ℕ) (t : Fin 4) (hs : s < cnt f) (hs' : s < 64)
    {O : CellTallies nD τ sig ℕ} (hO : Above (2 * s + 2) O)
    (k : Vec F S1x1x64x512 .bf16 → Pg F) (Q : PUnit → sProp 𝕄) :
    iprop(recs xs ws K ∗ cred (tallyAt (cell c (kRcv f (slotOf s) t)) s N) ∗ owesE c O ∗ at₀ c (kRcv f (slotOf s) t) (s / 2))
      ⊢ iprop((∀ v, (⌜widen v = extf .f32 (sentVal xs ws f s (src f c) t) Facts₀.bitsLt_bf16_f32⌝
            ∗ owesE c O ∗ at₀ c (kRcv f (slotOf s) t) (s / 2 + 1) ∗ reached ER (cell c (kRcv f (slotOf s) t)) (s / 2 + 1)
            ∗ slotAny c f (slotOf s) t ∗ reached ER (cell (src f c) (kCrd f (slotOf s) t)) (s / 2)) -∗ WP c (k v) Q)
        -∗ WP c (receive f (slotOf s) t k) Q) := by
  unfold receive
  iintro ⟨#HR, Hc, HO, Hat⟩ Hk
  iapply (wp_landed xs ws K c f s t hs hs' hO (h₁ := ((sendM_isWhole f).wordExact_slice rfl _ (tile_words t)).reshape _ _) (h₂ := ((recvM_isWhole f).wordExact_slice rfl _ (slot_words (slotOf s) t)).reshape _ _)) $$ [Hc HO Hat]
  · isplitr; · iexact HR
    isplitl [Hc]; · iexact Hc
    isplitl [HO]; · iexact HO
    iexact Hat
  iintro ⟨HO, Hat, Hr, Hpay⟩
  unfold rcvPay slotHas
  rw [slot_idx]
  icases Hpay with ⟨⟨%g, %hg, Hs⟩, Hrc⟩
  ihave Hs' := (Entails.of_eq (slotPts_eq (F := F) c f (slotOf s) t g)) $$ Hs
  iapply (wp_load_rect 𝒱₀ (c : Thread nD τ) none Set.univ (m := recvM f) (r := slotRect (slotOf s) t) (q := fullShare) (f := g) (S := ((recvM f).access (slotRect (slotOf s) t)).set) (Finset.Subset.refl _)) $$ Hs'
  iintro Hs'
  ihave Hs := (Entails.of_eq (slotPts_eq (F := F) c f (slotOf s) t g).symm) $$ Hs'
  iapply Hk
  isplitr
  · ipureintro
    exact congrArg (fun v : FVec F S64x512 .bf16 => extf .f32 v Facts₀.bitsLt_bf16_f32) hg
  isplitl [HO]; · iexact HO
  isplitl [Hat]; · iexact Hat
  isplitl [Hr]; · iexact Hr
  isplitl [Hs]; · unfold slotAny; iexists g; iexact Hs
  iexact Hrc

/-- Wait until transfer `s` has left. -/
theorem wp_sent (c : Dev nD) (f : Bool) (s : ℕ) (sl : Fin 2) (t : Fin 4) (hs : s < cnt f)
    {O : CellTallies nD τ sig ℕ} (hO : Above 0 O) (p : Pg F) (Q : PUnit → sProp 𝕄) :
    iprop(recs xs ws K ∗ cred (tallyAt (cell c (kSnd f t)) 0 N) ∗ owesE c O ∗ at₀ c (kSnd f t) s)
      ⊢ iprop(((owesE c O ∗ at₀ c (kSnd f t) (s + 1) ∗ reached ER (cell c (kSnd f t)) (s + 1) ∗ tileAny c f t) -∗ WP c p Q)
        -∗ WP c (sent f sl t p) Q) := by
  unfold sent
  exact wp_wait_one xs ws K c (kSnd f t) s 0 (wpE_waitDma2_eq 𝒱₀ (c : Thread nD τ) none Set.univ) rfl (credit_send f t)
      (duty_snd hs) (by decide) hO (fun _ => p) Q

/-- Wait for the credit of transfer `s`. -/
theorem wp_await (c : Dev nD) (f : Bool) (s : ℕ) (t : Fin 4) (hs : s + 3 ≤ cnt f) (hs' : s < 64)
    {O : CellTallies nD τ sig ℕ} (hO : Above (2 * s + 3) O) (p : Pg F) (Q : PUnit → sProp 𝕄) :
    iprop(recs xs ws K ∗ cred (tallyAt (cell c (kCrd f (slotOf s) t)) s 1) ∗ owesE c O ∗ at₀ c (kCrd f (slotOf s) t) (s / 2))
      ⊢ iprop(((owesE c O ∗ at₀ c (kCrd f (slotOf s) t) (s / 2 + 1) ∗ reached ER (cell c (kCrd f (slotOf s) t)) (s / 2 + 1)
            ∗ slotAny (tgt f c) f (slotOf s) t ∗ reached ER (cell (tgt f c) (kRcv f (slotOf s) t)) (s / 2 + 1)) -∗ WP c p Q)
        -∗ WP c (await f (slotOf s) t p) Q) := by
  unfold await
  exact wp_wait_one xs ws K c (kCrd f (slotOf s) t) (s / 2) s (wpE_semWait_eq 𝒱₀ (c : Thread nD τ) none Set.univ) rfl (show _ = 1 by decide)
      (duty_crd (by rw [slot_idx]; exact hs)) hs' hO (fun _ => p) Q

theorem payload_crd (c : Dev nD) (f : Bool) (sl : Fin 2) (t : Fin 4) (r : ℕ) (d : Bool) :
    (ringRd (F := F) xs ws).payload ((c : Thread nD τ), .reg (credS f sl t)) r d = crdPay c f sl t r :=
  payload_cell xs ws c (kCrd f sl t) r d

/-- Give the credit of transfer `s`. -/
theorem wp_free (c : Dev nD) (f : Bool) (s : ℕ) (t : Fin 4) (hs : s + 3 ≤ cnt f)
    (O : CellTallies nD τ sig ℕ) (p : Pg F) (Q : PUnit → sProp 𝕄) :
    iprop(recs xs ws K ∗ owesE c (O + tallyAt (cell (src f c) (kCrd f (slotOf s) t)) s 1)
        ∗ dutyTok ER (cell (src f c) (kCrd f (slotOf s) t)) (s / 2) false
        ∗ slotAny c f (slotOf s) t ∗ reached ER (cell c (kRcv f (slotOf s) t)) (s / 2 + 1)
        ∗ reached ER (cell (src f c) (kCrd f (slotOf s) t)) (s / 2))
      ⊢ iprop((owesE c O -∗ WP c p Q) -∗ WP c (free c f (slotOf s) t p) Q) := by
  unfold free owesE
  iintro ⟨#HR, ⟨%W, HO⟩, Ht, Hs, Hr, Hrc⟩ Hk
  iapply (Rounds.wp_signal 𝒱₀ ER (ringRd xs ws) (c : Thread nD τ) none (dst := (src f c : Thread nD τ)) (κ := K (src f c, kCrd f (slotOf s) t))
      (d := false) (r := s / 2) (mem_duties xs ws (k := kCrd f (slotOf s) t) (by rw [duty_crd (by rw [slot_idx]; exact hs)]; exact Finset.mem_singleton_self _))
      ((amount_cell xs ws (src f c) (kCrd f (slotOf s) t) (s / 2) false).trans rfl) s O rfl)
    $$ [HO Ht Hs Hr Hrc]
  · isplitr; · iapply (recs_inv xs ws K (src f c) (kCrd f (slotOf s) t)); iexact HR
    isplitl [HO]; · iexact HO
    isplitl [Ht]; · iexact Ht
    isplitl [Hs Hr]
    · rw [payload_crd]
      unfold crdPay
      rw [tgt_src]
      isplitl [Hs]; · iexact Hs
      iexact Hr
    iexact Hrc
  iintro HO
  iapply Hk
  iexists W; iexact HO

/-- Store a tile to send. -/
theorem wp_stage (c : Dev nD) (f : Bool) (t : Fin 4) (a : FVec F S64x512 .f32) (p : Pg F) (Q : PUnit → sProp 𝕄) :
    (tileAny (F := F) c f t : sProp 𝕄)
      ⊢ iprop((tileHas c f t (truncf .bf16 a Facts₀.bitsLt_bf16_f32) -∗ WP c p Q) -∗ WP c (stage f t a p) Q) := by
  unfold stage tileAny
  iintro ⟨%g, H0⟩ Hk
  ihave H := (Entails.of_eq (tilePts_eq (F := F) c f t g)) $$ H0
  iapply (wp_load_rect 𝒱₀ (c : Thread nD τ) none Set.univ (m := sendM f) (r := tileRect t) (q := fullShare) (f := g) (S := ((sendM f).access (tileRect t)).set) (Finset.Subset.refl _)) $$ H
  iintro H
  iapply (wp_store 𝒱₀ (c : Thread nD τ) none Set.univ (m := sendM f) (r := tileRect t) (f := g) (S := ((sendM f).access (tileRect t)).set) (Mk := Finset.univ)
    (View.setOn_subset_set _ _)) $$ H
  iintro H
  iapply Hk
  unfold tileHas
  iexists _
  isplitr
  · ipureintro; exact sendV_read_stored f t g a
  iapply (Entails.of_eq (tilePts_eq (F := F) c f t _).symm)
  iexact H

/-- Send transfer `s`. -/
theorem wp_send_tile (c : Dev nD) (f : Bool) (s : ℕ) (t : Fin 4) (hs : s < cnt f)
    (O : CellTallies nD τ sig ℕ) (p : Pg F) (Q : PUnit → sProp 𝕄) :
    iprop(recs xs ws K ∗ tileHas c f t (sentVal xs ws f s c t) ∗ slotAny (tgt f c) f (slotOf s) t
        ∗ owesE c (O + tallyAt (cell (tgt f c) (kRcv f (slotOf s) t)) s N)
        ∗ dutyTok ER (cell c (kSnd f t)) s false ∗ reached ER (cell c (kSnd f t)) s
        ∗ dutyTok ER (cell (tgt f c) (kRcv f (slotOf s) t)) (s / 2) false ∗ reached ER (cell (tgt f c) (kRcv f (slotOf s) t)) (s / 2)
        ∗ reached ER (cell c (kCrd f (slotOf s) t)) (s / 2))
      ⊢ iprop(((cred (tallyAt (cell c (kSnd f t)) 0 N) ∗ owesE c O) -∗ WP c p Q) -∗ WP c (send c f (slotOf s) t p) Q) := by
  unfold send owesE tileHas slotAny
  iintro ⟨#HR, ⟨%fs, %hfs, Hsrc⟩, ⟨%fd, Hdst⟩, ⟨%W, HO⟩, Ht1, Hr1, Ht2, Hr2, Hrc⟩ Hk
  unfold tilePts slotPts
  iapply (Rounds.wp_send_pointsTo_with 𝒱₀ ER (ringRd xs ws) (c : Thread nD τ) none (κ₁ := K (c, kSnd f t)) (κ₂ := K (tgt f c, kRcv f (slotOf s) t))
    (r₁ := s) (r₂ := s / 2) (d₁ := false) (d₂ := false) (fs := fs) (fd := fd) (F := reached ER (cell c (kCrd f (slotOf s) t)) (s / 2))
    (mem_duties xs ws (k := kSnd f t) (by rw [duty_snd hs]; exact Finset.mem_singleton_self _))
    (mem_duties xs ws (k := kRcv f (slotOf s) t) (by rw [duty_rcv (by rw [slot_idx]; exact hs)]; exact Finset.mem_singleton_self _))
    s 0 N (credit_recv f (slotOf s) t) (amount_cell xs ws c (kSnd f t) s false) (amount_cell xs ws (tgt f c) (kRcv f (slotOf s) t) (s / 2) false) O rfl (W := W)
    (by
      refine BIBase.Entails.trans ?_ (Entails.of_eq (payload_cell xs ws c (kSnd f t) s false).symm)
      show _ ⊢ tileAny c f t
      unfold tileAny tilePts
      iintro H; iexists fs; iexact H)
    (by
      refine BIBase.Entails.trans ?_ (Entails.of_eq (payload_cell xs ws (tgt f c) (kRcv f (slotOf s) t) (s / 2) false).symm)
      show _ ⊢ rcvPay xs ws (tgt f c) f (slotOf s) t (s / 2)
      unfold rcvPay slotHas slotPts
      rw [slot_idx, src_tgt]
      iintro ⟨H, Hr⟩
      isplitl [H]
      · iexists ((recvV f (slotOf s) t).view.write (Elt F) fd ((sendV f t).view.read (Elt F) fs) Finset.univ)
        isplitr
        · ipureintro
          exact (View.read_write_univ _ _).trans hfs
        iexact H
      iexact Hr))
    $$ [Hsrc Hdst HO Ht1 Hr1 Ht2 Hr2 Hrc]
  · isplitr; · iapply (recs_inv xs ws K c (kSnd f t)); iexact HR
    isplitr; · iapply (recs_inv xs ws K (tgt f c) (kRcv f (slotOf s) t)); iexact HR
    isplitl [Hsrc]; · iexact Hsrc
    isplitl [Hdst Hrc]
    · isplitl [Hdst]; · iexact Hdst
      iexact Hrc
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

end Cert.Ring

end
-- ==== Proof.Relay.lean ====
/-
One step of a tile of a flow: receive, add, store, send on, give the slot back.
-/
module

public import proofs.«01_k».proof.Proof.Rules

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (cc0_stg0_0 : Ref sig .tc).ty.Contents (Elt F))
variable (ws : Dev nD → (cc0_stg1_0 : Ref sig .tc).ty.Contents (Elt F))
variable (K : Dev nD × CellK → ℕ)

/-! ## What a flow's tile holds between two steps -/

/-- The first of the resources numbered from `a` on. -/
theorem take_first {a b : ℕ} (h : a < b) (A : ℕ → sProp 𝕄) :
    bigSep (Finset.Ico a b) A = iprop(A a ∗ bigSep (Finset.Ico (a + 1) b) A) := by
  rw [show Finset.Ico a b = insert a (Finset.Ico (a + 1) b) from by ext x; simp only [Finset.mem_insert, Finset.mem_Ico]; omega]
  exact BI.bigSep_insert (by simp only [Finset.mem_Ico]; omega)

theorem slotOf_add_two (s : ℕ) : slotOf (s + 2) = slotOf s := Fin.ext (by show (s + 2) % 2 = s % 2; omega)

/-- Credit for the landings from transfer `s` on. -/
def credR (c : Dev nD) (f : Bool) (t : Fin 4) (s : ℕ) : sProp 𝕄 :=
  bigSep (Finset.Ico s (cnt f)) fun i => cred (tallyAt (cell c (kRcv f (slotOf i) t)) i N)
/-- Credit for the credits from the one of transfer `u` on. -/
def credC (c : Dev nD) (f : Bool) (t : Fin 4) (u : ℕ) : sProp 𝕄 :=
  bigSep (Finset.Ico u (cnt f - 2)) fun i => cred (tallyAt (cell c (kCrd f (slotOf i) t)) i 1)
/-- The tokens of the sends from transfer `s` on: the send cell's, and the next device's landing cell's. -/
def tokS (c : Dev nD) (f : Bool) (t : Fin 4) (s : ℕ) : sProp 𝕄 :=
  bigSep (Finset.Ico s (cnt f)) fun i => dutyTok ER (cell c (kSnd f t)) i false
def tokR (c : Dev nD) (f : Bool) (t : Fin 4) (s : ℕ) : sProp 𝕄 :=
  bigSep (Finset.Ico s (cnt f)) fun i => dutyTok ER (cell (tgt f c) (kRcv f (slotOf i) t)) (i / 2) false
/-- The tokens of the credits to give from transfer `s` on. -/
def tokC (c : Dev nD) (f : Bool) (t : Fin 4) (s : ℕ) : sProp 𝕄 :=
  bigSep (Finset.Ico s (cnt f - 2)) fun i => dutyTok ER (cell (src f c) (kCrd f (slotOf i) t)) (i / 2) false
/-- The positions in the two slots' landing cells before transfer `s` lands, -/
def posR (c : Dev nD) (f : Bool) (t : Fin 4) (s : ℕ) : sProp 𝕄 :=
  iprop(at₀ c (kRcv f (slotOf s) t) (s / 2) ∗ at₀ c (kRcv f (slotOf (s + 1)) t) ((s + 1) / 2))
/-- and in the two slots' credit cells before the credit of transfer `u` comes. -/
def posC (c : Dev nD) (f : Bool) (t : Fin 4) (u : ℕ) : sProp 𝕄 :=
  iprop(at₀ c (kCrd f (slotOf u) t) (u / 2) ∗ at₀ c (kCrd f (slotOf (u + 1)) t) ((u + 1) / 2))
/-- The next device's second slot, still unused before the first step. -/
def held (c : Dev nD) (f : Bool) (t : Fin 4) (s : ℕ) : sProp 𝕄 := if s = 0 then slotAny (tgt f c) f (slotOf 1) t else iprop(emp)
/-- The own slot of the transfer before the last, kept before the last step. -/
def kept (c : Dev nD) (f : Bool) (t : Fin 4) (s : ℕ) : sProp 𝕄 := if s + 1 = cnt f then slotAny c f (slotOf (s + 1)) t else iprop(emp)

theorem credR_take {c : Dev nD} {f : Bool} {t : Fin 4} {s : ℕ} (h : s < cnt f) :
    (credR c f t s : sProp 𝕄) = iprop(cred (tallyAt (cell c (kRcv f (slotOf s) t)) s N) ∗ credR c f t (s + 1)) := take_first h _
theorem tokS_take {c : Dev nD} {f : Bool} {t : Fin 4} {s : ℕ} (h : s < cnt f) :
    (tokS c f t s : sProp 𝕄) = iprop(dutyTok ER (cell c (kSnd f t)) s false ∗ tokS c f t (s + 1)) := take_first h _
theorem tokR_take {c : Dev nD} {f : Bool} {t : Fin 4} {s : ℕ} (h : s < cnt f) :
    (tokR c f t s : sProp 𝕄)
      = iprop(dutyTok ER (cell (tgt f c) (kRcv f (slotOf s) t)) (s / 2) false ∗ tokR c f t (s + 1)) := take_first h _

/-- A flow's tile on device `c` before step `s`: transfer `s` has been sent and is yet to be received. -/
def flow (c : Dev nD) (f : Bool) (t : Fin 4) (s : ℕ) : sProp 𝕄 :=
  iprop(credR c f t s ∗ credC c f t (s - 1) ∗ tokS c f t (s + 1) ∗ tokR c f t (s + 1) ∗ tokC c f t s
    ∗ posR c f t s ∗ posC c f t (s - 1) ∗ at₀ c (kSnd f t) s ∗ cred (tallyAt (cell c (kSnd f t)) 0 N)
    ∗ held c f t s ∗ kept c f t s)

/-- What step `s` of a tile pays: the credit of transfer `s`, and transfer `s + 1`. -/
def payC (c : Dev nD) (f : Bool) (s : ℕ) (t : Fin 4) : CellTallies nD τ sig ℕ :=
  if s + 3 ≤ cnt f then tallyAt (cell (src f c) (kCrd f (slotOf s) t)) s 1 else 0
def payS (c : Dev nD) (f : Bool) (s : ℕ) (t : Fin 4) : CellTallies nD τ sig ℕ :=
  if s + 1 < cnt f then tallyAt (cell (tgt f c) (kRcv f (slotOf (s + 1)) t)) (s + 1) N else 0

theorem cnt_le (f : Bool) : cnt f ≤ 16 := by cases f <;> decide
theorem cnt_ge (f : Bool) : 15 ≤ cnt f := by cases f <;> decide

theorem above_payC (c : Dev nD) (f : Bool) (s : ℕ) (t : Fin 4) : Above (2 * s + 2) (payC c f s t) := by
  have := cnt_le f
  unfold payC
  split
  · exact Above.tally (by omega) (show _ < 2 * s + 3 by omega)
  · exact Above.zero _
theorem above_payS (c : Dev nD) (f : Bool) (s : ℕ) (t : Fin 4) : Above (2 * s + 2) (payS c f s t) := by
  have := cnt_le f
  unfold payS
  split
  · exact Above.tally (by omega) (show _ < 2 * (s + 1) + 2 by omega)
  · exact Above.zero _

/-! ## One step of a tile -/

/-- Before sending transfer `s + 1`: the next device's slot is free at once for the second transfer, and
    by the credit of the transfer two before for the later ones. -/
theorem wp_gate (c : Dev nD) (f : Bool) (s : ℕ) (t : Fin 4) (hs : s + 1 < cnt f)
    {O : CellTallies nD τ sig ℕ} (hO : Above (2 * s + 2) O) (p : Pg F) (Q : PUnit → sProp 𝕄) :
    iprop(recs xs ws K ∗ credC c f t (s - 1) ∗ posC c f t (s - 1) ∗ held c f t s ∗ owesE c O)
      ⊢ iprop(((credC c f t s ∗ posC c f t s ∗ slotAny (tgt f c) f (slotOf (s + 1)) t
            ∗ reached ER (cell (tgt f c) (kRcv f (slotOf (s + 1)) t)) ((s + 1) / 2)
            ∗ reached ER (cell c (kCrd f (slotOf (s + 1)) t)) ((s + 1) / 2) ∗ owesE c O) -∗ WP c p Q)
        -∗ WP c ((if 1 ≤ s then await f (slotOf (s + 1)) t else id) p) Q) := by
  have h16 := cnt_le f
  rcases s with _ | s
  · rw [if_neg (by decide), id]
    unfold held
    rw [if_pos rfl]
    iintro ⟨#HR, Hc, Hp, Hs, HO⟩ Hk
    iapply Hk
    isplitl [Hc]; · iexact Hc
    isplitl [Hp]; · iexact Hp
    isplitl [Hs]; · iexact Hs
    isplitr; · iapply (recs_reached xs ws K (tgt f c) (kRcv f (slotOf 1) t)); iexact HR
    isplitr; · iapply (recs_reached xs ws K c (kCrd f (slotOf 1) t)); iexact HR
    iexact HO
  · rw [if_pos (by omega), Nat.add_sub_cancel, slotOf_add_two s, show (s + 1 + 1) / 2 = s / 2 + 1 from by omega]
    unfold credC posC
    rw [take_first (show s < cnt f - 2 by omega), slotOf_add_two s, show (s + 1 + 1) / 2 = s / 2 + 1 from by omega]
    iintro ⟨#HR, ⟨Hc, Hcs⟩, ⟨Hp, Hp'⟩, -, HO⟩ Hk
    iapply (wp_await xs ws K c f s t (by omega) (by omega) (hO.mono (by omega)) p Q) $$ [Hc HO Hp]
    · isplitr; · iexact HR
      isplitl [Hc]; · iexact Hc
      isplitl [HO]; · iexact HO
      iexact Hp
    iintro ⟨HO, Hp, Hr, Hs, Hrt⟩
    iapply Hk
    isplitl [Hcs]; · iexact Hcs
    isplitl [Hp Hp']
    · isplitl [Hp']; · iexact Hp'
      iexact Hp
    isplitl [Hs]; · iexact Hs
    isplitl [Hrt]; · iexact Hrt
    isplitl [Hr]; · iexact Hr
    iexact HO

/-- After sending transfer `s + 1`: give the credit of transfer `s` with the own slot, or keep the slot. -/
theorem wp_release (c : Dev nD) (f : Bool) (s : ℕ) (t : Fin 4) (hs : s + 1 < cnt f)
    (O : CellTallies nD τ sig ℕ) (p : Pg F) (Q : PUnit → sProp 𝕄) :
    iprop(recs xs ws K ∗ tokC c f t s ∗ slotAny c f (slotOf s) t ∗ reached ER (cell c (kRcv f (slotOf s) t)) (s / 2 + 1)
        ∗ reached ER (cell (src f c) (kCrd f (slotOf s) t)) (s / 2) ∗ owesE c (O + payC c f s t))
      ⊢ iprop(((tokC c f t (s + 1) ∗ kept c f t (s + 1) ∗ owesE c O) -∗ WP c p Q)
        -∗ WP c ((if s + 3 ≤ cnt f then free c f (slotOf s) t else id) p) Q) := by
  unfold tokC kept payC
  by_cases h : s + 3 ≤ cnt f
  · rw [if_pos h, if_pos h, take_first (show s < cnt f - 2 by omega), if_neg (by omega)]
    iintro ⟨#HR, ⟨Ht, Hts⟩, Hs, Hr, Hrc, HO⟩ Hk
    iapply (wp_free xs ws K c f s t h O p Q) $$ [Ht Hs Hr Hrc HO]
    · isplitr; · iexact HR
      isplitl [HO]; · iexact HO
      isplitl [Ht]; · iexact Ht
      isplitl [Hs]; · iexact Hs
      isplitl [Hr]; · iexact Hr
      iexact Hrc
    iintro HO
    iapply Hk
    isplitl [Hts]; · iexact Hts
    isplitr; · iempintro
    iexact HO
  · rw [if_neg h, if_neg h, if_pos (by omega), id, add_zero, slotOf_add_two s,
      show Finset.Ico s (cnt f - 2) = ∅ from Finset.Ico_eq_empty (by omega),
      show Finset.Ico (s + 1) (cnt f - 2) = ∅ from Finset.Ico_eq_empty (by omega)]
    iintro ⟨-, Ht, Hs, -, -, HO⟩ Hk
    iapply Hk
    isplitl [Ht]; · iexact Ht
    isplitl [Hs]; · iexact Hs
    iexact HO

/-- A received tile with the own product added is what the next transfer sends. -/
theorem sent_next (c : Dev nD) (f : Bool) (s : ℕ) (t : Fin 4) (v : Vec F S1x1x64x512 .bf16)
    (hv : widen v = extf .f32 (sentVal xs ws f s (src f c) t) Facts₀.bitsLt_bf16_f32) :
    truncf .bf16 (acc v (prodAt xs ws (chunk f (s + 1)) c) t) Facts₀.bitsLt_bf16_f32 = sentVal xs ws f (s + 1) c t := by
  unfold acc; rw [hv]; rfl

/-- One step of a tile. -/
theorem wp_relay (c : Dev nD) (f : Bool) (s : ℕ) (t : Fin 4) (hs : s + 1 < cnt f)
    {O : CellTallies nD τ sig ℕ} (hO : Above (2 * s + 2) O) (p : Pg F) (Q : PUnit → sProp 𝕄) :
    iprop(recs xs ws K ∗ flow c f t s ∗ owesE c (O + payC c f s t + payS c f s t))
      ⊢ iprop(((flow c f t (s + 1) ∗ owesE c O) -∗ WP c p Q)
        -∗ WP c (relay c f s t (prodAt xs ws (chunk f (s + 1)) c) p) Q) := by
  have h16 := cnt_le f
  have hOC : Above (2 * s + 2) (O + payC c f s t) := hO.add (above_payC c f s t)
  have hOCS : Above (2 * s + 2) (O + payC c f s t + payS c f s t) := hOC.add (above_payS c f s t)
  unfold relay flow
  iintro ⟨#HR, ⟨HcR, HcC, HtS, HtR, HtC, HpR, HpC, HpS, HcS, Hheld, Hkept⟩, HO⟩ Hk
  unfold posR
  ihave HcR' := (Entails.of_eq (credR_take (F := F) (c := c) (t := t) (show s < cnt f by omega))) $$ HcR
  icases HcR' with ⟨Hc, HcR⟩
  icases HpR with ⟨Hp, Hp'⟩
  iapply (wp_receive xs ws K c f s t (by omega) (by omega) hOCS _ Q) $$ [Hc HO Hp]
  · isplitr; · iexact HR
    isplitl [Hc]; · iexact Hc
    isplitl [HO]; · iexact HO
    iexact Hp
  iintro %v ⟨%hv, HO, Hp, Hr, Hs, Hrc⟩
  iapply (wp_sent xs ws K c f s (slotOf s) t (by omega) (hOCS.mono (by omega)) _ Q) $$ [HcS HO HpS]
  · isplitr; · iexact HR
    isplitl [HcS]; · iexact HcS
    isplitl [HO]; · iexact HO
    iexact HpS
  iintro ⟨HO, HpS, HrS, Ht⟩
  iapply (wp_stage c f t _ _ Q) $$ Ht
  iintro Ht
  iapply (wp_gate xs ws K c f s t hs hOCS _ Q) $$ [HcC HpC Hheld HO]
  · isplitr; · iexact HR
    isplitl [HcC]; · iexact HcC
    isplitl [HpC]; · iexact HpC
    isplitl [Hheld]; · iexact Hheld
    iexact HO
  iintro ⟨HcC, HpC, HsT, HrT, HrC, HO⟩
  ihave HtS' := (Entails.of_eq (tokS_take (F := F) (c := c) (t := t) (show s + 1 < cnt f by omega))) $$ HtS
  ihave HtR' := (Entails.of_eq (tokR_take (F := F) (c := c) (t := t) (show s + 1 < cnt f by omega))) $$ HtR
  icases HtS' with ⟨Ht1, HtS⟩
  icases HtR' with ⟨Ht2, HtR⟩
  unfold payS
  rw [if_pos hs]
  iapply (wp_send_tile xs ws K c f (s + 1) t hs (O + payC c f s t) _ Q) $$ [Ht HsT HO Ht1 HrS Ht2 HrT HrC]
  · isplitr; · iexact HR
    isplitl [Ht]
    · iapply (Entails.of_eq (congrArg (tileHas c f t) (sent_next xs ws c f s t v hv)))
      iexact Ht
    isplitl [HsT]; · iexact HsT
    isplitl [HO]; · iexact HO
    isplitl [Ht1]; · iexact Ht1
    isplitl [HrS]; · iexact HrS
    isplitl [Ht2]; · iexact Ht2
    isplitl [HrT]; · iexact HrT
    iexact HrC
  iintro ⟨HcS, HO⟩
  iapply (wp_release xs ws K c f s t hs O _ Q) $$ [HtC Hs Hr Hrc HO]
  · isplitr; · iexact HR
    isplitl [HtC]; · iexact HtC
    isplitl [Hs]; · iexact Hs
    isplitl [Hr]; · iexact Hr
    isplitl [Hrc]; · iexact Hrc
    iexact HO
  iintro ⟨HtC, Hkept, HO⟩
  iapply Hk
  isplitr [HO]
  · rw [Nat.add_sub_cancel, slotOf_add_two s, show (s + 1 + 1) / 2 = s / 2 + 1 from by omega]
    isplitl [HcR]; · iexact HcR
    isplitl [HcC]; · iexact HcC
    isplitl [HtS]; · iexact HtS
    isplitl [HtR]; · iexact HtR
    isplitl [HtC]; · iexact HtC
    isplitl [Hp Hp']
    · isplitl [Hp']; · iexact Hp'
      iexact Hp
    isplitl [HpC]; · iexact HpC
    isplitl [HpS]; · iexact HpS
    isplitl [HcS]; · iexact HcS
    isplitr; · unfold held; rw [if_neg (by omega)]; iempintro
    iexact Hkept
  iexact HO

end Cert.Ring

end
-- ==== Proof.Steps.lean ====
/-
All tiles of a step, all steps, and the first transfers.
-/
module

public import proofs.«01_k».proof.Proof.Relay

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (cc0_stg0_0 : Ref sig .tc).ty.Contents (Elt F))
variable (ws : Dev nD → (cc0_stg1_0 : Ref sig .tc).ty.Contents (Elt F))
variable (K : Dev nD × CellK → ℕ)

/-! ## The products -/

/-- The blocks of the two factors on device `c`. -/
def inputs (c : Dev nD) : sProp 𝕄 :=
  iprop((((c : Thread nD τ).loc cc0_stg0_0) ↦{fullShare} xs c) ∗ (((c : Thread nD τ).loc cc0_stg1_0) ↦{fullShare} ws c))

theorem wp_product (c : Dev nD) (r : Fin 32) (k : FVec F S64x2048 .f32 → Pg F) (Q : PUnit → sProp 𝕄) :
    inputs xs ws c ⊢ iprop((inputs xs ws c -∗ WP c (k (prodAt xs ws r c)) Q) -∗ WP c (product c r k) Q) := by
  unfold inputs product
  iintro ⟨Hx, Hw⟩ Hk
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  iapply Hk
  isplitl [Hx]; · iexact Hx
  iexact Hw

/-! ## What is still owed -/

/-- Owing what the two flows' steps `s` of a tile pay, on top of `O`. -/
def oweTile (c : Dev nD) (s : ℕ) (t : Fin 4) (O : CellTallies nD τ sig ℕ) : CellTallies nD τ sig ℕ :=
  O + payC c true s t + payS c true s t + payC c false s t + payS c false s t
/-- Owing a whole step. -/
def oweStep (c : Dev nD) (s : ℕ) (O : CellTallies nD τ sig ℕ) : CellTallies nD τ sig ℕ :=
  oweTile c s 0 (oweTile c s 1 (oweTile c s 2 (oweTile c s 3 O)))
/-- Owing `n` steps from step `s` on. -/
def oweFrom (c : Dev nD) : ℕ → ℕ → CellTallies nD τ sig ℕ
  | _, 0 => 0
  | s, n + 1 => oweStep c s (oweFrom c (s + 1) n)
theorem oweFrom_succ (c : Dev nD) (s n : ℕ) : oweFrom c s (n + 1) = oweStep c s (oweFrom c (s + 1) n) := rfl
/-- Owing the first transfers of a tile, on top of `O`. -/
def oweOpen (c : Dev nD) (t : Fin 4) (O : CellTallies nD τ sig ℕ) : CellTallies nD τ sig ℕ :=
  O + tallyAt (cell (tgt true c) (kRcv true (slotOf 0) t)) 0 N + tallyAt (cell (tgt false c) (kRcv false (slotOf 0) t)) 0 N
/-- Owing all of a device's transfers and credits. -/
def oweCore (c : Dev nD) : CellTallies nD τ sig ℕ :=
  oweOpen c 0 (oweOpen c 1 (oweOpen c 2 (oweOpen c 3 (oweFrom c 0 15))))

theorem above_tile {c : Dev nD} {s : ℕ} {t : Fin 4} {b : ℕ} {O : CellTallies nD τ sig ℕ} (hb : b ≤ 2 * s + 2) (hO : Above b O) :
    Above b (oweTile c s t O) :=
  (((hO.add ((above_payC c true s t).mono hb)).add ((above_payS c true s t).mono hb)).add ((above_payC c false s t).mono hb)).add
    ((above_payS c false s t).mono hb)
theorem above_step {c : Dev nD} {s : ℕ} {b : ℕ} {O : CellTallies nD τ sig ℕ} (hb : b ≤ 2 * s + 2) (hO : Above b O) :
    Above b (oweStep c s O) := above_tile hb (above_tile hb (above_tile hb (above_tile hb hO)))
theorem above_from (c : Dev nD) : ∀ (n s b : ℕ), b ≤ 2 * s + 2 → Above b (oweFrom c s n)
  | 0, _, b, _ => Above.zero b
  | n + 1, s, b, hb => above_step hb (above_from c n (s + 1) b (by omega))
theorem above_open {c : Dev nD} {t : Fin 4} {b : ℕ} {O : CellTallies nD τ sig ℕ} (hb : b ≤ 1) (hO : Above b O) :
    Above b (oweOpen c t O) :=
  (hO.add (Above.tally (k := kRcv true (slotOf 0) t) (by decide) (show b < 2 * 0 + 2 by omega))).add
    (Above.tally (k := kRcv false (slotOf 0) t) (by decide) (show b < 2 * 0 + 2 by omega))
theorem above_core (c : Dev nD) {b : ℕ} (hb : b ≤ 1) : Above b (oweCore c) :=
  above_open hb (above_open hb (above_open hb (above_open hb (above_from c 15 0 b (by omega)))))

/-! ## The steps -/

/-- Both flows' tile `t` before step `s`; all tiles. -/
def pair (c : Dev nD) (s : ℕ) (t : Fin 4) : sProp 𝕄 := iprop(flow c false t s ∗ flow c true t s)
def flows (c : Dev nD) (s : ℕ) : sProp 𝕄 := iprop(pair c s 0 ∗ pair c s 1 ∗ pair c s 2 ∗ pair c s 3)

theorem wp_pair (c : Dev nD) (s : ℕ) (t : Fin 4) (hs : s + 1 < 15)
    {O : CellTallies nD τ sig ℕ} (hO : Above (2 * s + 2) O) (p : Pg F) (Q : PUnit → sProp 𝕄) :
    iprop(recs xs ws K ∗ pair c s t ∗ owesE c (oweTile c s t O))
      ⊢ iprop(((pair c (s + 1) t ∗ owesE c O) -∗ WP c p Q)
        -∗ WP c (relay c false s t (prodAt xs ws (chunk false (s + 1)) c)
          (relay c true s t (prodAt xs ws (chunk true (s + 1)) c) p)) Q) := by
  unfold pair oweTile
  iintro ⟨#HR, ⟨Hf, Ht⟩, HO⟩ Hk
  iapply (wp_relay xs ws K c false s t (show s + 1 < 16 by omega)
    ((hO.add (above_payC c true s t)).add (above_payS c true s t)) _ Q) $$ [Hf HO]
  · isplitr; · iexact HR
    isplitl [Hf]; · iexact Hf
    iexact HO
  iintro ⟨Hf, HO⟩
  iapply (wp_relay xs ws K c true s t hs hO _ Q) $$ [Ht HO]
  · isplitr; · iexact HR
    isplitl [Ht]; · iexact Ht
    iexact HO
  iintro ⟨Ht, HO⟩
  iapply Hk
  isplitr [HO]
  · isplitl [Hf]; · iexact Hf
    iexact Ht
  iexact HO

theorem wp_relays (c : Dev nD) (s : ℕ) (hs : s + 1 < 15)
    {O : CellTallies nD τ sig ℕ} (hO : Above (2 * s + 2) O) (p : Pg F) (Q : PUnit → sProp 𝕄) :
    iprop(recs xs ws K ∗ flows c s ∗ owesE c (oweStep c s O))
      ⊢ iprop(((flows c (s + 1) ∗ owesE c O) -∗ WP c p Q)
        -∗ WP c (relays c s (prodAt xs ws (chunk false (s + 1)) c) (prodAt xs ws (chunk true (s + 1)) c) p) Q) := by
  have h3 : Above (2 * s + 2) (oweTile c s 3 O) := above_tile le_rfl hO
  have h2 : Above (2 * s + 2) (oweTile c s 2 (oweTile c s 3 O)) := above_tile le_rfl h3
  have h1 : Above (2 * s + 2) (oweTile c s 1 (oweTile c s 2 (oweTile c s 3 O))) := above_tile le_rfl h2
  unfold flows oweStep relays
  iintro ⟨#HR, ⟨H0, H1, H2, H3⟩, HO⟩ Hk
  iapply (wp_pair xs ws K c s 0 hs h1 _ Q) $$ [H0 HO]
  · isplitr; · iexact HR
    isplitl [H0]; · iexact H0
    iexact HO
  iintro ⟨H0, HO⟩
  iapply (wp_pair xs ws K c s 1 hs h2 _ Q) $$ [H1 HO]
  · isplitr; · iexact HR
    isplitl [H1]; · iexact H1
    iexact HO
  iintro ⟨H1, HO⟩
  iapply (wp_pair xs ws K c s 2 hs h3 _ Q) $$ [H2 HO]
  · isplitr; · iexact HR
    isplitl [H2]; · iexact H2
    iexact HO
  iintro ⟨H2, HO⟩
  iapply (wp_pair xs ws K c s 3 hs hO _ Q) $$ [H3 HO]
  · isplitr; · iexact HR
    isplitl [H3]; · iexact H3
    iexact HO
  iintro ⟨H3, HO⟩
  iapply Hk
  isplitr [HO]
  · isplitl [H0]; · iexact H0
    isplitl [H1]; · iexact H1
    isplitl [H2]; · iexact H2
    iexact H3
  iexact HO

theorem wp_steps (c : Dev nD) (m : ℕ) : ∀ (n s : ℕ) (h : s + n ≤ 14) (p : Pg F) (Q : PUnit → sProp 𝕄),
    iprop(recs xs ws K ∗ inputs xs ws c ∗ flows c s ∗ owesE c (oweFrom c s (n + m)))
      ⊢ iprop(((inputs xs ws c ∗ flows c (s + n) ∗ owesE c (oweFrom c (s + n) m)) -∗ WP c p Q)
        -∗ WP c (steps c n s h p) Q)
  | 0, s, h, p, Q => by
    rw [Nat.zero_add, Nat.add_zero]
    unfold steps
    iintro ⟨-, Hi, Hf, HO⟩ Hk
    iapply Hk
    isplitl [Hi]; · iexact Hi
    isplitl [Hf]; · iexact Hf
    iexact HO
  | n + 1, s, h, p, Q => by
    rw [show n + 1 + m = (n + m) + 1 from by omega]
    rw [oweFrom_succ]
    unfold steps
    iintro ⟨#HR, Hi, Hf, HO⟩ Hk
    iapply (wp_product xs ws c (chunkR (s + 1) _) _ Q) $$ Hi
    iintro Hi
    iapply (wp_product xs ws c (chunkL (s + 1) _) _ Q) $$ Hi
    iintro Hi
    rw [chunkR_eq, chunkL_eq]
    iapply (wp_relays xs ws K c s (by omega) (above_from c (n + m) (s + 1) (2 * s + 2) (by omega)) _ Q) $$ [Hf HO]
    · isplitr; · iexact HR
      isplitl [Hf]; · iexact Hf
      iexact HO
    iintro ⟨Hf, HO⟩
    iapply (wp_steps c m n (s + 1) _ p Q) $$ [Hi Hf HO]
    · isplitr; · iexact HR
      isplitl [Hi]; · iexact Hi
      isplitl [Hf]; · iexact Hf
      iexact HO
    rw [show s + 1 + n = s + (n + 1) from by omega]
    iexact Hk

/-! ## The first transfers -/

/-- A flow's tile after the handshake: nothing sent yet, the next device's two slots in hand. -/
def fresh (c : Dev nD) (f : Bool) (t : Fin 4) : sProp 𝕄 :=
  iprop(credR c f t 0 ∗ credC c f t 0 ∗ tokS c f t 0 ∗ tokR c f t 0 ∗ tokC c f t 0
    ∗ posR c f t 0 ∗ posC c f t 0 ∗ at₀ c (kSnd f t) 0 ∗ tileAny c f t
    ∗ slotAny (tgt f c) f (slotOf 0) t ∗ slotAny (tgt f c) f (slotOf 1) t)

/-- The first transfer of a tile already staged. -/
theorem wp_first (c : Dev nD) (f : Bool) (t : Fin 4)
    (O : CellTallies nD τ sig ℕ) (p : Pg F) (Q : PUnit → sProp 𝕄) :
    iprop(recs xs ws K ∗ (credR c f t 0 ∗ credC c f t 0 ∗ tokS c f t 0 ∗ tokR c f t 0 ∗ tokC c f t 0
        ∗ posR c f t 0 ∗ posC c f t 0 ∗ at₀ c (kSnd f t) 0
        ∗ slotAny (tgt f c) f (slotOf 0) t ∗ slotAny (tgt f c) f (slotOf 1) t)
        ∗ tileHas c f t (sentVal xs ws f 0 c t)
        ∗ owesE c (O + tallyAt (cell (tgt f c) (kRcv f (slotOf 0) t)) 0 N))
      ⊢ iprop(((flow c f t 0 ∗ owesE c O) -∗ WP c p Q) -∗ WP c (send c f (slotOf 0) t p) Q) := by
  have h := cnt_ge f
  unfold flow
  iintro ⟨#HR, ⟨HcR, HcC, HtS, HtR, HtC, HpR, HpC, HpS, Hs0, Hs1⟩, Ht, HO⟩ Hk
  ihave HtS' := (Entails.of_eq (tokS_take (F := F) (c := c) (t := t) (show 0 < cnt f by omega))) $$ HtS
  ihave HtR' := (Entails.of_eq (tokR_take (F := F) (c := c) (t := t) (show 0 < cnt f by omega))) $$ HtR
  icases HtS' with ⟨Ht1, HtS⟩
  icases HtR' with ⟨Ht2, HtR⟩
  iapply (wp_send_tile xs ws K c f 0 t (by omega) O _ Q) $$ [Ht Hs0 HO Ht1 Ht2]
  · isplitr; · iexact HR
    isplitl [Ht]; · iexact Ht
    isplitl [Hs0]; · iexact Hs0
    isplitl [HO]; · iexact HO
    isplitl [Ht1]; · iexact Ht1
    isplitr; · iapply (recs_reached xs ws K c (kSnd f t)); iexact HR
    isplitl [Ht2]; · iexact Ht2
    isplitr; · iapply (recs_reached xs ws K (tgt f c) (kRcv f (slotOf 0) t)); iexact HR
    iapply (recs_reached xs ws K c (kCrd f (slotOf 0) t)); iexact HR
  iintro ⟨HcS, HO⟩
  iapply Hk
  isplitr [HO]
  · isplitl [HcR]; · iexact HcR
    isplitl [HcC]; · iexact HcC
    isplitl [HtS]; · iexact HtS
    isplitl [HtR]; · iexact HtR
    isplitl [HtC]; · iexact HtC
    isplitl [HpR]; · iexact HpR
    isplitl [HpC]; · iexact HpC
    isplitl [HpS]; · iexact HpS
    isplitl [HcS]; · iexact HcS
    isplitl [Hs1]; · unfold held; rw [if_pos rfl]; iexact Hs1
    unfold kept; rw [if_neg (by omega)]; iempintro
  iexact HO

theorem wp_opening (c : Dev nD) (t : Fin 4)
    (O : CellTallies nD τ sig ℕ) (p : Pg F) (Q : PUnit → sProp 𝕄) :
    iprop(recs xs ws K ∗ (fresh c false t ∗ fresh c true t) ∗ owesE c (oweOpen c t O))
      ⊢ iprop(((pair c 0 t ∗ owesE c O) -∗ WP c p Q)
        -∗ WP c (opening c t (prodAt xs ws (chunk false 0) c) (prodAt xs ws (chunk true 0) c) p) Q) := by
  unfold opening oweOpen fresh pair
  iintro ⟨#HR, ⟨⟨A1, A2, A3, A4, A5, A6, A7, A8, At, A9, A10⟩, ⟨B1, B2, B3, B4, B5, B6, B7, B8, Bt, B9, B10⟩⟩, HO⟩ Hk
  iapply (wp_stage c false t _ _ Q) $$ At
  iintro At
  iapply (wp_stage c true t _ _ Q) $$ Bt
  iintro Bt
  iapply (wp_first xs ws K c false t _ _ Q) $$ [A1 A2 A3 A4 A5 A6 A7 A8 A9 A10 At HO]
  · isplitr; · iexact HR
    isplitr [At HO]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
    isplitl [At]; · iexact At
    iexact HO
  iintro ⟨Hf, HO⟩
  iapply (wp_first xs ws K c true t _ _ Q) $$ [B1 B2 B3 B4 B5 B6 B7 B8 B9 B10 Bt HO]
  · isplitr; · iexact HR
    isplitr [Bt HO]
    · isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    isplitl [Bt]; · iexact Bt
    iexact HO
  iintro ⟨Ht, HO⟩
  iapply Hk
  isplitr [HO]
  · isplitl [Hf]; · iexact Hf
    iexact Ht
  iexact HO

end Cert.Ring

end
-- ==== Proof.Closing.lean ====
/-
The last transfers, the result, and the program after the handshake.
-/
module

public import proofs.«01_k».proof.Proof.Steps

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (cc0_stg0_0 : Ref sig .tc).ty.Contents (Elt F))
variable (ws : Dev nD → (cc0_stg1_0 : Ref sig .tc).ty.Contents (Elt F))
variable (K : Dev nD × CellK → ℕ)

/-! ## The last transfers -/

/-- A position after which a cell has no round left. -/
def atEnd (c : Dev nD) (k : CellK) : sProp 𝕄 := iprop(∃ R, ⌜∀ r, R ≤ r → dutyK k r = ∅⌝ ∗ at₀ c k R)

theorem atEnd_intro (c : Dev nD) (k : CellK) (R : ℕ) (h : ∀ r, R ≤ r → dutyK k r = ∅) : (at₀ c k R : sProp 𝕄) ⊢ atEnd c k := by
  unfold atEnd
  iintro H
  iexists R
  isplitr; · ipureintro; exact h
  iexact H

theorem done_rcv (f : Bool) (i : ℕ) (t : Fin 4) (R : ℕ) (h : cnt f ≤ 2 * R + i % 2) : ∀ r, R ≤ r → dutyK (kRcv f (slotOf i) t) r = ∅ :=
  fun r hr => if_neg (by show ¬ 2 * r + i % 2 < cnt f; omega)
theorem done_crd (f : Bool) (i : ℕ) (t : Fin 4) (R : ℕ) (h : cnt f < 2 * R + i % 2 + 3) : ∀ r, R ≤ r → dutyK (kCrd f (slotOf i) t) r = ∅ :=
  fun r hr => if_neg (by show ¬ 2 * r + i % 2 + 3 ≤ cnt f; omega)
theorem done_snd (f : Bool) (t : Fin 4) (R : ℕ) (h : cnt f ≤ R) : ∀ r, R ≤ r → dutyK (kSnd f t) r = ∅ :=
  fun r hr => if_neg (by show ¬ r < cnt f; omega)

/-- Two slots in a row are the two slots. -/
theorem both_slots (s : ℕ) (P : Fin 2 → sProp 𝕄) : iprop(P (slotOf s) ∗ P (slotOf (s + 1))) ⊢ iprop(P 0 ∗ P 1) := by
  rcases Nat.mod_two_eq_zero_or_one s with h | h
  · rw [show slotOf s = 0 from Fin.ext h, show slotOf (s + 1) = 1 from Fin.ext (by show (s + 1) % 2 = 1; omega)]
  · rw [show slotOf s = 1 from Fin.ext h, show slotOf (s + 1) = 0 from Fin.ext (by show (s + 1) % 2 = 0; omega)]
    iintro ⟨A, B⟩
    isplitl [B]; · iexact B
    iexact A

/-- A flow's tile once its last transfer has been received. -/
def rested (c : Dev nD) (f : Bool) (t : Fin 4) (s : ℕ) : sProp 𝕄 :=
  iprop((atEnd c (kRcv f 0 t) ∗ atEnd c (kRcv f 1 t)) ∗ (atEnd c (kCrd f 0 t) ∗ atEnd c (kCrd f 1 t))
    ∗ at₀ c (kSnd f t) s ∗ cred (tallyAt (cell c (kSnd f t)) 0 N) ∗ (slotAny c f 0 t ∗ slotAny c f 1 t))

/-- A flow's tile once its last transfer has left too: every buffer is the device's own again. -/
def settled (c : Dev nD) (f : Bool) (t : Fin 4) : sProp 𝕄 :=
  iprop((atEnd c (kRcv f 0 t) ∗ atEnd c (kRcv f 1 t)) ∗ (atEnd c (kCrd f 0 t) ∗ atEnd c (kCrd f 1 t))
    ∗ atEnd c (kSnd f t) ∗ (slotAny c f 0 t ∗ slotAny c f 1 t) ∗ tileAny c f t)

/-- The last receipt. -/
theorem wp_last (c : Dev nD) (f : Bool) (s : ℕ) (t : Fin 4) (hs : s + 1 = cnt f)
    {O : CellTallies nD τ sig ℕ} (hO : Above (2 * s + 2) O) (k : Vec F S1x1x64x512 .bf16 → Pg F) (Q : PUnit → sProp 𝕄) :
    iprop(recs xs ws K ∗ flow c f t s ∗ owesE c O)
      ⊢ iprop((∀ v, (⌜widen v = extf .f32 (sentVal xs ws f s (src f c) t) Facts₀.bitsLt_bf16_f32⌝
            ∗ rested c f t s ∗ owesE c O) -∗ WP c (k v) Q) -∗ WP c (receive f (slotOf s) t k) Q) := by
  have h := cnt_ge f
  have h' := cnt_le f
  unfold flow posR posC kept
  rw [credR_take (show s < cnt f by omega), if_pos hs]
  iintro ⟨#HR, ⟨⟨Hc, -⟩, -, -, -, -, ⟨HpR, HpR'⟩, ⟨HpC, HpC'⟩, HpS, HcS, -, Hown⟩, HO⟩ Hk
  iapply (wp_receive xs ws K c f s t (by omega) (by omega) hO k Q) $$ [Hc HO HpR]
  · isplitr; · iexact HR
    isplitl [Hc]; · iexact Hc
    isplitl [HO]; · iexact HO
    iexact HpR
  iintro %v ⟨%hv, HO, HpR, -, Hslot, -⟩
  iapply Hk $$ %v
  isplitr; · ipureintro; exact hv
  isplitr [HO]
  · unfold rested
    isplitl [HpR HpR']
    · iapply (both_slots s (fun sl => atEnd c (kRcv f sl t)))
      isplitl [HpR]
      · iapply (atEnd_intro c (kRcv f (slotOf s) t) (s / 2 + 1) (done_rcv f s t _ (by omega))) $$ HpR
      · iapply (atEnd_intro c (kRcv f (slotOf (s + 1)) t) ((s + 1) / 2) (done_rcv f (s + 1) t _ (by omega))) $$ HpR'
    isplitl [HpC HpC']
    · iapply (both_slots (s - 1) (fun sl => atEnd c (kCrd f sl t)))
      isplitl [HpC]
      · iapply (atEnd_intro c (kCrd f (slotOf (s - 1)) t) ((s - 1) / 2) (done_crd f (s - 1) t _ (by omega))) $$ HpC
      · iapply (atEnd_intro c (kCrd f (slotOf (s - 1 + 1)) t) ((s - 1 + 1) / 2) (done_crd f (s - 1 + 1) t _ (by omega))) $$ HpC'
    isplitl [HpS]; · iexact HpS
    isplitl [HcS]; · iexact HcS
    iapply (both_slots s (fun sl => slotAny c f sl t))
    isplitl [Hslot]; · iexact Hslot
    iexact Hown
  iexact HO

theorem wp_left (c : Dev nD) (f : Bool) (s : ℕ) (sl : Fin 2) (t : Fin 4) (hs : s + 1 = cnt f)
    {O : CellTallies nD τ sig ℕ} (hO : Above 0 O) (p : Pg F) (Q : PUnit → sProp 𝕄) :
    iprop(recs xs ws K ∗ rested c f t s ∗ owesE c O)
      ⊢ iprop(((settled c f t ∗ owesE c O) -∗ WP c p Q) -∗ WP c (sent f sl t p) Q) := by
  unfold rested settled
  iintro ⟨#HR, ⟨HpR, HpC, HpS, HcS, Hsl⟩, HO⟩ Hk
  iapply (wp_sent xs ws K c f s sl t (by omega) hO p Q) $$ [HcS HO HpS]
  · isplitr; · iexact HR
    isplitl [HcS]; · iexact HcS
    isplitl [HO]; · iexact HO
    iexact HpS
  iintro ⟨HO, HpS, -, Ht⟩
  iapply Hk
  isplitr [HO]
  · isplitl [HpR]; · iexact HpR
    isplitl [HpC]; · iexact HpC
    isplitl [HpS]
    · iapply (atEnd_intro c (kSnd f t) (s + 1) (done_snd f t _ (by omega))) $$ HpS
    isplitl [Hsl]; · iexact Hsl
    iexact Ht
  iexact HO

/-! ## The result -/

/-- Tile `t` of device `c`'s result: what the two flows brought, with the device's own product. -/
def resTile (c : Dev nD) (t : Fin 4) : FVec F S64x512 .f32 :=
  act (addf (addf (extf .f32 (sentVal xs ws false 15 (src false c) t) Facts₀.bitsLt_bf16_f32)
      (tileOf t (prodAt xs ws (chunk false 16) c)))
    (extf .f32 (sentVal xs ws true 14 (src true c) t) Facts₀.bitsLt_bf16_f32))

/-- The result buffer's contents after one tile's store, and after all four. -/
def wrote (c : Dev nD) (t : Fin 4) (g : (cc0_stg2_0 : Ref sig .tc).ty.Contents (Elt F)) : (cc0_stg2_0 : Ref sig .tc).ty.Contents (Elt F) :=
  (oM.access (outRect t)).write (Elt F) g (resTile xs ws c t) Finset.univ
def wroteAll (c : Dev nD) (g : (cc0_stg2_0 : Ref sig .tc).ty.Contents (Elt F)) : (cc0_stg2_0 : Ref sig .tc).ty.Contents (Elt F) :=
  wrote xs ws c 3 (wrote xs ws c 2 (wrote xs ws c 1 (wrote xs ws c 0 g)))

/-- Device `c` holds its result buffer at contents `g`. -/
def outPts (c : Dev nD) (g : (cc0_stg2_0 : Ref sig .tc).ty.Contents (Elt F)) : sProp 𝕄 :=
  (((c : Thread nD τ).loc cc0_stg2_0) ↦{fullShare} g)

/-- Both flows' tile `t`, settled; all tiles. -/
def settledPair (c : Dev nD) (t : Fin 4) : sProp 𝕄 := iprop(settled c false t ∗ settled c true t)
def settledAll (c : Dev nD) : sProp 𝕄 :=
  iprop(settledPair c 0 ∗ settledPair c 1 ∗ settledPair c 2 ∗ settledPair c 3)

theorem wp_finish (c : Dev nD) (t : Fin 4) (vr vl : Vec F S1x1x64x512 .bf16)
    (hr : widen vr = extf .f32 (sentVal xs ws false 15 (src false c) t) Facts₀.bitsLt_bf16_f32)
    (hl : widen vl = extf .f32 (sentVal xs ws true 14 (src true c) t) Facts₀.bitsLt_bf16_f32)
    (g : (cc0_stg2_0 : Ref sig .tc).ty.Contents (Elt F)) (p : Pg F) (Q : PUnit → sProp 𝕄) :
    iprop(recs xs ws K ∗ (rested c false t 15 ∗ rested c true t 14) ∗ outPts c g ∗ owesE c 0)
      ⊢ iprop(((settledPair c t ∗ outPts c (wrote xs ws c t g) ∗ owesE c 0) -∗ WP c p Q)
        -∗ WP c (finish t vr vl (prodAt xs ws (chunk false 16) c) p) Q) := by
  unfold finish settledPair
  iintro ⟨#HR, ⟨Hf, Ht⟩, Ho, HO⟩ Hk
  iapply (wp_left xs ws K c false 15 1 t rfl (Above.zero 0) _ Q) $$ [Hf HO]
  · isplitr; · iexact HR
    isplitl [Hf]; · iexact Hf
    iexact HO
  iintro ⟨Hf, HO⟩
  iapply (wp_left xs ws K c true 14 0 t rfl (Above.zero 0) _ Q) $$ [Ht HO]
  · isplitr; · iexact HR
    isplitl [Ht]; · iexact Ht
    iexact HO
  iintro ⟨Ht, HO⟩
  unfold outPts
  iapply (wp_load_rect 𝒱₀ (c : Thread nD τ) none Set.univ (m := oM) (r := outRect t) (q := fullShare) (f := g) (S := Finset.univ) (Finset.subset_univ _)) $$ Ho
  iintro Ho
  iapply (wp_store 𝒱₀ (c : Thread nD τ) none Set.univ (m := oM) (r := outRect t) (f := g) (S := Finset.univ) (Mk := Finset.univ)
    (Finset.subset_univ _)) $$ Ho
  iintro Ho
  iapply Hk
  isplitl [Hf Ht]
  · isplitl [Hf]; · iexact Hf
    iexact Ht
  isplitr [HO]
  · rw [show act (addf (acc vr (prodAt xs ws (chunk false 16) c) t) (widen vl)) = resTile xs ws c t from by
      unfold acc resTile; rw [hr, hl]]
    iexact Ho
  iexact HO

/-! ## The last two steps -/

theorem pay_none (c : Dev nD) (t : Fin 4) (O : CellTallies nD τ sig ℕ) : O + payC c true 14 t + payS c true 14 t = O := by
  rw [show payC c true 14 t = 0 from if_neg (by decide), show payS c true 14 t = 0 from if_neg (by decide), add_zero, add_zero]

/-- One tile of the last step but one: the longer flow goes on, the shorter ends. -/
theorem wp_restL (c : Dev nD) (t : Fin 4) {O : CellTallies nD τ sig ℕ} (hO : Above 30 O)
    (k : Vec F S1x1x64x512 .bf16 → Pg F) (Q : PUnit → sProp 𝕄) :
    iprop(recs xs ws K ∗ pair c 14 t ∗ owesE c (oweTile c 14 t O))
      ⊢ iprop((∀ v, (⌜widen v = extf .f32 (sentVal xs ws true 14 (src true c) t) Facts₀.bitsLt_bf16_f32⌝
            ∗ flow c false t 15 ∗ rested c true t 14 ∗ owesE c O) -∗ WP c (k v) Q)
          -∗ WP c (restL c (prodAt xs ws (chunk false 15) c) t k) Q) := by
  unfold pair oweTile restL
  rw [pay_none]
  iintro ⟨#HR, ⟨Hf, Ht⟩, HO⟩ Hk
  iapply (wp_relay xs ws K c false 14 t (by decide) hO _ Q) $$ [Hf HO]
  · isplitr; · iexact HR
    isplitl [Hf]; · iexact Hf
    iexact HO
  iintro ⟨Hf, HO⟩
  iapply (wp_last xs ws K c true 14 t rfl hO k Q) $$ [Ht HO]
  · isplitr; · iexact HR
    isplitl [Ht]; · iexact Ht
    iexact HO
  iintro %v ⟨%hv, Ht, HO⟩
  iapply Hk $$ %v
  isplitr; · ipureintro; exact hv
  isplitl [Hf]; · iexact Hf
  isplitl [Ht]; · iexact Ht
  iexact HO

/-- The end of a program. -/
theorem wp_end (c : Dev nD) (Q : PUnit → sProp 𝕄) : iprop(|={Set.univ}=> Q ⟨⟩) ⊢ WP (F := F) c (.ret ⟨⟩) Q := by
  unfold WP; rw [wp_ret]

theorem wp_closing (c : Dev nD) (g : (cc0_stg2_0 : Ref sig .tc).ty.Contents (Elt F)) (Q : PUnit → sProp 𝕄) :
    iprop(recs xs ws K ∗ inputs xs ws c ∗ flows c 14 ∗ outPts c g ∗ owesE c (oweFrom c 14 1))
      ⊢ iprop(((inputs xs ws c ∗ settledAll c ∗ outPts c (wroteAll xs ws c g) ∗ owesE c 0) -∗ |={Set.univ}=> Q ⟨⟩)
          -∗ WP c (closing c) Q) := by
  have hO (t : Fin 4) {O : CellTallies nD τ sig ℕ} (h : Above 30 O) : Above 30 (oweTile c 14 t O) := above_tile (by decide) h
  rw [show oweFrom c 14 1 = oweStep c 14 0 from rfl]
  unfold closing flows oweStep
  iintro ⟨#HR, Hi, ⟨H0, H1, H2, H3⟩, Ho, HO⟩ Hk
  iapply (wp_product xs ws c (chunkR 15 _) _ Q) $$ Hi
  iintro Hi
  rw [chunkR_eq]
  iapply (wp_restL xs ws K c 0 (hO 1 (hO 2 (hO 3 (Above.zero 30)))) _ Q) $$ [H0 HO]
  · isplitr; · iexact HR
    isplitl [H0]; · iexact H0
    iexact HO
  iintro %l0 ⟨%hl0, F0, T0, HO⟩
  iapply (wp_restL xs ws K c 1 (hO 2 (hO 3 (Above.zero 30))) _ Q) $$ [H1 HO]
  · isplitr; · iexact HR
    isplitl [H1]; · iexact H1
    iexact HO
  iintro %l1 ⟨%hl1, F1, T1, HO⟩
  iapply (wp_restL xs ws K c 2 (hO 3 (Above.zero 30)) _ Q) $$ [H2 HO]
  · isplitr; · iexact HR
    isplitl [H2]; · iexact H2
    iexact HO
  iintro %l2 ⟨%hl2, F2, T2, HO⟩
  iapply (wp_restL xs ws K c 3 (Above.zero 30) _ Q) $$ [H3 HO]
  · isplitr; · iexact HR
    isplitl [H3]; · iexact H3
    iexact HO
  iintro %l3 ⟨%hl3, F3, T3, HO⟩
  iapply (wp_product xs ws c (chunkR 16 _) _ Q) $$ Hi
  iintro Hi
  rw [chunkR_eq]
  iapply (wp_last xs ws K c false 15 0 rfl (Above.zero _) _ Q) $$ [F0 HO]
  · isplitr; · iexact HR
    isplitl [F0]; · iexact F0
    iexact HO
  iintro %r0 ⟨%hr0, F0, HO⟩
  iapply (wp_last xs ws K c false 15 1 rfl (Above.zero _) _ Q) $$ [F1 HO]
  · isplitr; · iexact HR
    isplitl [F1]; · iexact F1
    iexact HO
  iintro %r1 ⟨%hr1, F1, HO⟩
  iapply (wp_last xs ws K c false 15 2 rfl (Above.zero _) _ Q) $$ [F2 HO]
  · isplitr; · iexact HR
    isplitl [F2]; · iexact F2
    iexact HO
  iintro %r2 ⟨%hr2, F2, HO⟩
  iapply (wp_last xs ws K c false 15 3 rfl (Above.zero _) _ Q) $$ [F3 HO]
  · isplitr; · iexact HR
    isplitl [F3]; · iexact F3
    iexact HO
  iintro %r3 ⟨%hr3, F3, HO⟩
  iapply (wp_finish xs ws K c 0 r0 l0 hr0 hl0 _ _ Q) $$ [F0 T0 Ho HO]
  · isplitr; · iexact HR
    isplitl [F0 T0]
    · isplitl [F0]; · iexact F0
      iexact T0
    isplitl [Ho]; · iexact Ho
    iexact HO
  iintro ⟨S0, Ho, HO⟩
  iapply (wp_finish xs ws K c 1 r1 l1 hr1 hl1 _ _ Q) $$ [F1 T1 Ho HO]
  · isplitr; · iexact HR
    isplitl [F1 T1]
    · isplitl [F1]; · iexact F1
      iexact T1
    isplitl [Ho]; · iexact Ho
    iexact HO
  iintro ⟨S1, Ho, HO⟩
  iapply (wp_finish xs ws K c 2 r2 l2 hr2 hl2 _ _ Q) $$ [F2 T2 Ho HO]
  · isplitr; · iexact HR
    isplitl [F2 T2]
    · isplitl [F2]; · iexact F2
      iexact T2
    isplitl [Ho]; · iexact Ho
    iexact HO
  iintro ⟨S2, Ho, HO⟩
  iapply (wp_finish xs ws K c 3 r3 l3 hr3 hl3 _ _ Q) $$ [F3 T3 Ho HO]
  · isplitr; · iexact HR
    isplitl [F3 T3]
    · isplitl [F3]; · iexact F3
      iexact T3
    isplitl [Ho]; · iexact Ho
    iexact HO
  iintro ⟨S3, Ho, HO⟩
  iapply (wp_end c Q)
  iapply Hk
  isplitl [Hi]; · iexact Hi
  isplitl [S0 S1 S2 S3]
  · unfold settledAll
    isplitl [S0]; · iexact S0
    isplitl [S1]; · iexact S1
    isplitl [S2]; · iexact S2
    iexact S3
  isplitl [Ho]; · iexact Ho
  iexact HO

/-! ## The program after the handshake -/

/-- Both flows' tile `t` after the handshake; all tiles. -/
def freshPair (c : Dev nD) (t : Fin 4) : sProp 𝕄 := iprop(fresh c false t ∗ fresh c true t)
def freshAll (c : Dev nD) : sProp 𝕄 := iprop(freshPair c 0 ∗ freshPair c 1 ∗ freshPair c 2 ∗ freshPair c 3)

theorem wp_core (c : Dev nD) (g : (cc0_stg2_0 : Ref sig .tc).ty.Contents (Elt F)) (Q : PUnit → sProp 𝕄) :
    iprop(recs xs ws K ∗ inputs xs ws c ∗ freshAll c ∗ outPts c g ∗ owesE c (oweCore c))
      ⊢ iprop(((inputs xs ws c ∗ settledAll c ∗ outPts c (wroteAll xs ws c g) ∗ owesE c 0) -∗ |={Set.univ}=> Q ⟨⟩)
          -∗ WP c (core c) Q) := by
  unfold core freshAll freshPair oweCore
  iintro ⟨#HR, Hi, ⟨H0, H1, H2, H3⟩, Ho, HO⟩ Hk
  iapply (wp_product xs ws c (chunkR 0 _) _ Q) $$ Hi
  iintro Hi
  iapply (wp_product xs ws c (chunkL 0 _) _ Q) $$ Hi
  iintro Hi
  rw [chunkR_eq, chunkL_eq]
  iapply (wp_opening xs ws K c 0 _ _ Q) $$ [H0 HO]
  · isplitr; · iexact HR
    isplitl [H0]; · iexact H0
    iexact HO
  iintro ⟨H0, HO⟩
  iapply (wp_opening xs ws K c 1 _ _ Q) $$ [H1 HO]
  · isplitr; · iexact HR
    isplitl [H1]; · iexact H1
    iexact HO
  iintro ⟨H1, HO⟩
  iapply (wp_opening xs ws K c 2 _ _ Q) $$ [H2 HO]
  · isplitr; · iexact HR
    isplitl [H2]; · iexact H2
    iexact HO
  iintro ⟨H2, HO⟩
  iapply (wp_opening xs ws K c 3 _ _ Q) $$ [H3 HO]
  · isplitr; · iexact HR
    isplitl [H3]; · iexact H3
    iexact HO
  iintro ⟨H3, HO⟩
  iapply (wp_steps xs ws K c 1 14 0 _ _ Q) $$ [Hi H0 H1 H2 H3 HO]
  · isplitr; · iexact HR
    isplitl [Hi]; · iexact Hi
    isplitl [H0 H1 H2 H3]
    · unfold flows
      isplitl [H0]; · iexact H0
      isplitl [H1]; · iexact H1
      isplitl [H2]; · iexact H2
      iexact H3
    iexact HO
  rw [Nat.zero_add]
  iintro ⟨Hi, Hf, HO⟩
  iapply (wp_closing xs ws K c g Q) $$ [Hi Hf Ho HO]
  · isplitr; · iexact HR
    isplitl [Hi]; · iexact Hi
    isplitl [Hf]; · iexact Hf
    isplitl [Ho]; · iexact Ho
    iexact HO
  iexact Hk

end Cert.Ring

end
-- ==== Proof.Buffers.lean ====
/-
The scratch buffers held whole, and slot by slot and tile by tile.
-/
module

public import proofs.«01_k».proof.Proof.Closing
public import Idealize.ShloMosaic.Lib.Ring

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

omit [FloatOps F] in
theorem bigSep_fin4 (A : Fin 4 → sProp 𝕄) : bigSep Finset.univ A = iprop(A 0 ∗ A 1 ∗ A 2 ∗ A 3) :=
  bigSep_univ_eq_bigSepL [0, 1, 2, 3] (by decide) (by decide) A
omit [FloatOps F] in
theorem bigSep_fin2 (A : Fin 2 → sProp 𝕄) : bigSep Finset.univ A = iprop(A 0 ∗ A 1) :=
  bigSep_univ_eq_bigSepL [0, 1] (by decide) (by decide) A
omit [FloatOps F] in
theorem bigSep_bool (A : Bool → sProp 𝕄) : bigSep Finset.univ A = iprop(A false ∗ A true) :=
  bigSep_univ_eq_bigSepL [false, true] (by decide) (by decide) A

/-! ## A landing buffer, slot by slot and tile by tile -/

/-- The elements of a slot's tile. -/
def slotSet (b : Fin 2 × Fin 4) : Finset S2x4x64x512.Idx := (slotRect b.1 b.2).set
def tileSet (t : Fin 4) : Finset S4x64x512.Idx := (tileRect t).set

theorem mem_slotSet {b : Fin 2 × Fin 4} {i : S2x4x64x512.Idx} : i ∈ slotSet b ↔ (i 0).val = b.1.val ∧ (i 1).val = b.2.val := by
  unfold slotSet
  rw [Rect.mem_set_unit]
  refine ⟨fun h => ?_, fun h a => ?_⟩
  · have h0 : b.1.val ≤ (i 0).val ∧ (i 0).val < b.1.val + 1 := h 0
    have h1 : b.2.val ≤ (i 1).val ∧ (i 1).val < b.2.val + 1 := h 1
    omega
  · have h2 : (i 2).val < 64 := (i 2).isLt
    have h3 : (i 3).val < 512 := (i 3).isLt
    fin_cases a
    · show b.1.val ≤ (i 0).val ∧ (i 0).val < b.1.val + 1; omega
    · show b.2.val ≤ (i 1).val ∧ (i 1).val < b.2.val + 1; omega
    · show 0 ≤ (i 2).val ∧ (i 2).val < 0 + 64; omega
    · show 0 ≤ (i 3).val ∧ (i 3).val < 0 + 512; omega
theorem mem_tileSet {t : Fin 4} {i : S4x64x512.Idx} : i ∈ tileSet t ↔ (i 0).val = t.val := by
  unfold tileSet
  rw [Rect.mem_set_unit]
  refine ⟨fun h => ?_, fun h a => ?_⟩
  · have h0 : t.val ≤ (i 0).val ∧ (i 0).val < t.val + 1 := h 0
    omega
  · have h2 : (i 1).val < 64 := (i 1).isLt
    have h3 : (i 2).val < 512 := (i 2).isLt
    fin_cases a
    · show t.val ≤ (i 0).val ∧ (i 0).val < t.val + 1; omega
    · show 0 ≤ (i 1).val ∧ (i 1).val < 0 + 64; omega
    · show 0 ≤ (i 2).val ∧ (i 2).val < 0 + 512; omega

theorem slotSet_disjoint (b b' : Fin 2 × Fin 4) (h : b ≠ b') : Disjoint (slotSet b) (slotSet b') :=
  Finset.disjoint_left.mpr fun i hi hi' => by
    rw [mem_slotSet] at hi hi'
    exact h (Prod.ext (Fin.ext (hi.1.symm.trans hi'.1)) (Fin.ext (hi.2.symm.trans hi'.2)))
theorem slotSet_cover : Finset.univ.biUnion slotSet = Finset.univ :=
  Finset.eq_univ_of_forall fun i => Finset.mem_biUnion.mpr ⟨(i 0, i 1), Finset.mem_univ _, mem_slotSet.mpr ⟨rfl, rfl⟩⟩
theorem tileSet_disjoint (t t' : Fin 4) (h : t ≠ t') : Disjoint (tileSet t) (tileSet t') :=
  Finset.disjoint_left.mpr fun i hi hi' => by
    rw [mem_tileSet] at hi hi'
    exact h (Fin.ext (hi.symm.trans hi'))
theorem tileSet_cover : Finset.univ.biUnion tileSet = Finset.univ :=
  Finset.eq_univ_of_forall fun i => Finset.mem_biUnion.mpr ⟨i 0, Finset.mem_univ _, mem_tileSet.mpr rfl⟩

/-- A device's whole landing or send buffer of a flow, at any contents. -/
def recvWhole (c : Dev nD) : Bool → sProp 𝕄
  | false => iprop(∃ g : Buf (Elt F) ((c : Thread nD τ).loc cc0_scratch0), ((c : Thread nD τ).loc cc0_scratch0) ↦{fullShare} g)
  | true => iprop(∃ g : Buf (Elt F) ((c : Thread nD τ).loc cc0_scratch2), ((c : Thread nD τ).loc cc0_scratch2) ↦{fullShare} g)
def sendWhole (c : Dev nD) : Bool → sProp 𝕄
  | false => iprop(∃ g : Buf (Elt F) ((c : Thread nD τ).loc cc0_scratch1), ((c : Thread nD τ).loc cc0_scratch1) ↦{fullShare} g)
  | true => iprop(∃ g : Buf (Elt F) ((c : Thread nD τ).loc cc0_scratch3), ((c : Thread nD τ).loc cc0_scratch3) ↦{fullShare} g)

/-- The tiles of a landing buffer's slots; of a send buffer. -/
def slotsAny (c : Dev nD) (f : Bool) : sProp 𝕄 :=
  bigSep Finset.univ fun t : Fin 4 => iprop(slotAny (F := F) c f 0 t ∗ slotAny (F := F) c f 1 t)
def tilesAny (c : Dev nD) (f : Bool) : sProp 𝕄 := bigSep Finset.univ fun t : Fin 4 => tileAny (F := F) c f t

omit [FloatOps F] in
theorem slots_eq (A : Fin 2 → Fin 4 → sProp 𝕄) :
    bigSep Finset.univ (fun b : Fin 2 × Fin 4 => A b.1 b.2) = bigSep Finset.univ fun t : Fin 4 => iprop(A 0 t ∗ A 1 t) := by
  rw [bigSep_univ_prod, bigSep_fin2, bigSep_sep']

omit [FloatOps F] in
theorem slotAny_false (c : Dev nD) (b : Fin 2 × Fin 4) :
    (slotAny (F := F) c false b.1 b.2 : sProp 𝕄) = iprop(∃ g : Buf (Elt F) ((c : Thread nD τ).loc cc0_scratch0), ((c : Thread nD τ).loc cc0_scratch0) ↦[slotSet b]{fullShare} g) := by
  have h : (recvV false b.1 b.2).view.set = slotSet b := (recvV_set false b.1 b.2).trans (View.set_slice_whole _ _)
  exact congrArg (fun S => (iprop(∃ g : Buf (Elt F) ((c : Thread nD τ).loc cc0_scratch0), ((c : Thread nD τ).loc cc0_scratch0) ↦[S]{fullShare} g) : sProp 𝕄)) h
omit [FloatOps F] in
theorem slotAny_true (c : Dev nD) (b : Fin 2 × Fin 4) :
    (slotAny (F := F) c true b.1 b.2 : sProp 𝕄) = iprop(∃ g : Buf (Elt F) ((c : Thread nD τ).loc cc0_scratch2), ((c : Thread nD τ).loc cc0_scratch2) ↦[slotSet b]{fullShare} g) := by
  have h : (recvV true b.1 b.2).view.set = slotSet b := (recvV_set true b.1 b.2).trans (View.set_slice_whole _ _)
  exact congrArg (fun S => (iprop(∃ g : Buf (Elt F) ((c : Thread nD τ).loc cc0_scratch2), ((c : Thread nD τ).loc cc0_scratch2) ↦[S]{fullShare} g) : sProp 𝕄)) h
omit [FloatOps F] in
theorem tileAny_false (c : Dev nD) (t : Fin 4) :
    (tileAny (F := F) c false t : sProp 𝕄) = iprop(∃ g : Buf (Elt F) ((c : Thread nD τ).loc cc0_scratch1), ((c : Thread nD τ).loc cc0_scratch1) ↦[tileSet t]{fullShare} g) := by
  have h : (sendV false t).view.set = tileSet t := (sendV_set false t).trans (View.set_slice_whole _ _)
  exact congrArg (fun S => (iprop(∃ g : Buf (Elt F) ((c : Thread nD τ).loc cc0_scratch1), ((c : Thread nD τ).loc cc0_scratch1) ↦[S]{fullShare} g) : sProp 𝕄)) h
omit [FloatOps F] in
theorem tileAny_true (c : Dev nD) (t : Fin 4) :
    (tileAny (F := F) c true t : sProp 𝕄) = iprop(∃ g : Buf (Elt F) ((c : Thread nD τ).loc cc0_scratch3), ((c : Thread nD τ).loc cc0_scratch3) ↦[tileSet t]{fullShare} g) := by
  have h : (sendV true t).view.set = tileSet t := (sendV_set true t).trans (View.set_slice_whole _ _)
  exact congrArg (fun S => (iprop(∃ g : Buf (Elt F) ((c : Thread nD τ).loc cc0_scratch3), ((c : Thread nD τ).loc cc0_scratch3) ↦[S]{fullShare} g) : sProp 𝕄)) h

omit [FloatOps F] in
/-- A buffer held whole at any contents is its blocks held each at any contents, -/
theorem blocks_split {ℓ : Loc nD τ sig} {B : Type} [Fintype B] [DecidableEq B] (I : B → Finset (Idx ℓ))
    (hd : ∀ b b', b ≠ b' → Disjoint (I b) (I b')) (hc : Finset.univ.biUnion I = Finset.univ) :
    (iprop(∃ g : Buf (Elt F) ℓ, ℓ ↦{fullShare} g) : sProp 𝕄) ⊢ bigSep Finset.univ fun b => iprop(∃ g : Buf (Elt F) ℓ, ℓ ↦[I b]{fullShare} g) := by
  iintro ⟨%g, H⟩
  ihave H' := (Entails.of_eq (Ring.pointsTo_blocks (Ix := ℕ) (Name := ℕ) (U := UU) (Lvl := ℕ) I hd hc (q := fullShare) g)) $$ H
  iapply (show (bigSep Finset.univ (fun b => (ℓ ↦[I b]{fullShare} g : sProp 𝕄)))
      ⊢ bigSep Finset.univ fun b => iprop(∃ g : Buf (Elt F) ℓ, ℓ ↦[I b]{fullShare} g) from
    bigSep_mono fun b _ => show (ℓ ↦[I b]{fullShare} g : sProp 𝕄) ⊢ iprop(∃ g : Buf (Elt F) ℓ, ℓ ↦[I b]{fullShare} g) from by
      iintro H; iexists g; iexact H)
  iexact H'

theorem recv_split (c : Dev nD) (f : Bool) : (recvWhole (F := F) c f : sProp 𝕄) ⊢ slotsAny c f := by
  unfold slotsAny
  rw [← slots_eq (fun sl t => slotAny (F := F) c f sl t)]
  cases f
  · rw [bigSep_congr fun b _ => slotAny_false (F := F) c b]
    exact blocks_split (ℓ := (c : Thread nD τ).loc cc0_scratch0) slotSet slotSet_disjoint slotSet_cover
  · rw [bigSep_congr fun b _ => slotAny_true (F := F) c b]
    exact blocks_split (ℓ := (c : Thread nD τ).loc cc0_scratch2) slotSet slotSet_disjoint slotSet_cover
theorem send_split (c : Dev nD) (f : Bool) : (sendWhole (F := F) c f : sProp 𝕄) ⊢ tilesAny c f := by
  unfold tilesAny
  cases f
  · rw [bigSep_congr fun b _ => tileAny_false (F := F) c b]
    exact blocks_split (ℓ := (c : Thread nD τ).loc cc0_scratch1) tileSet tileSet_disjoint tileSet_cover
  · rw [bigSep_congr fun b _ => tileAny_true (F := F) c b]
    exact blocks_split (ℓ := (c : Thread nD τ).loc cc0_scratch3) tileSet tileSet_disjoint tileSet_cover

/-- Some contents of a buffer. -/
def zeros : FVec F S2x4x64x512 .bf16 := constant _ .bf16 0x0000#16
def zeros' : FVec F S4x64x512 .bf16 := constant _ .bf16 0x0000#16

theorem recv_join (c : Dev nD) (f : Bool) : (slotsAny (F := F) c f : sProp 𝕄) ⊢ recvWhole c f := by
  unfold slotsAny
  rw [← slots_eq (fun sl t => slotAny (F := F) c f sl t)]
  cases f
  · rw [bigSep_congr fun b _ => slotAny_false (F := F) c b]
    exact Ring.pointsTo_blocks_join_exists (ℓ := (c : Thread nD τ).loc cc0_scratch0) slotSet slotSet_disjoint slotSet_cover (zeros (F := F))
  · rw [bigSep_congr fun b _ => slotAny_true (F := F) c b]
    exact Ring.pointsTo_blocks_join_exists (ℓ := (c : Thread nD τ).loc cc0_scratch2) slotSet slotSet_disjoint slotSet_cover (zeros (F := F))
theorem send_join (c : Dev nD) (f : Bool) : (tilesAny (F := F) c f : sProp 𝕄) ⊢ sendWhole c f := by
  unfold tilesAny
  cases f
  · rw [bigSep_congr fun b _ => tileAny_false (F := F) c b]
    exact Ring.pointsTo_blocks_join_exists (ℓ := (c : Thread nD τ).loc cc0_scratch1) tileSet tileSet_disjoint tileSet_cover (zeros' (F := F))
  · rw [bigSep_congr fun b _ => tileAny_true (F := F) c b]
    exact Ring.pointsTo_blocks_join_exists (ℓ := (c : Thread nD τ).loc cc0_scratch3) tileSet tileSet_disjoint tileSet_cover (zeros' (F := F))

end Cert.Ring

end
-- ==== Proof.Device.lean ====
/-
The whole program on one device: the handshake, the transfers, the end.
-/
module

public import proofs.«01_k».proof.Proof.Buffers

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (cc0_stg0_0 : Ref sig .tc).ty.Contents (Elt F))
variable (ws : Dev nD → (cc0_stg1_0 : Ref sig .tc).ty.Contents (Elt F))
variable (K : Dev nD × CellK → ℕ)

/-- What holds of each member in the presence of a record that is never used up holds of all of them. -/
theorem each_with {I : Type} [DecidableEq I] (S : Finset I) (R : sProp 𝕄) [BI.Persistent R] (A B : I → sProp 𝕄)
    (h : ∀ i, iprop(R ∗ A i) ⊢ B i) : iprop(R ∗ bigSep S A) ⊢ bigSep S B := by
  refine (sep_mono_left (BI.bigSep_of_persistent S R)).trans ?_
  rw [← bigSep_sep']
  exact bigSep_mono fun i _ => h i

/-! ## Before the first transfers -/

/-- What a flow's tile starts from, the buffers aside. -/
def base (c : Dev nD) (f : Bool) (t : Fin 4) : sProp 𝕄 :=
  iprop(credR c f t 0 ∗ credC c f t 0 ∗ tokS c f t 0 ∗ tokR c f t 0 ∗ tokC c f t 0
    ∗ posR c f t 0 ∗ posC c f t 0 ∗ at₀ c (kSnd f t) 0)

theorem fresh_one (c : Dev nD) (f : Bool) (t : Fin 4) :
    (iprop(base (F := F) c f t ∗ tileAny (F := F) c f t ∗ slotAny (F := F) (tgt f c) f 0 t ∗ slotAny (F := F) (tgt f c) f 1 t) : sProp 𝕄) ⊢ fresh (F := F) c f t := by
  unfold base fresh
  iintro ⟨⟨A1, A2, A3, A4, A5, A6, A7, A8⟩, A9, A10, A11⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexact A11

/-- A whole flow after the handshake. -/
theorem fresh_flow (c : Dev nD) (f : Bool) :
    (iprop((bigSep Finset.univ fun t => base (F := F) c f t) ∗ tilesAny (F := F) c f ∗ barPay (F := F) c f) : sProp 𝕄)
      ⊢ bigSep Finset.univ fun t => fresh (F := F) c f t := by
  unfold tilesAny barPay
  rw [← bigSep_sep', ← bigSep_sep']
  exact bigSep_mono fun t _ => fresh_one c f t

theorem freshAll_eq (c : Dev nD) :
    (freshAll (F := F) c : sProp 𝕄) = iprop((bigSep Finset.univ fun t => fresh (F := F) c false t) ∗ bigSep Finset.univ fun t => fresh (F := F) c true t) := by
  rw [← bigSep_sep', bigSep_fin4]; rfl

/-! ## After the last transfers -/

/-- A cell with no round left closes: its counter is zero for good. -/
theorem close_cell (c : Dev nD) (k : CellK) : iprop(recs xs ws K ∗ atEnd c k) ⊢ iprop(|={Set.univ}=> semVal (cell c k) 0) := by
  unfold atEnd
  iintro ⟨#HR, ⟨%R, %h, Hat⟩⟩
  iapply (Rounds.cell_close ER (ringRd xs ws) (κ := K (c, k)) (Set.mem_univ _) (fun h => h) (R := R) (fun r hr => (duties_cell xs ws c k r).trans (h r hr)))
  isplitr; · iapply (recs_inv xs ws K c k); iexact HR
  iexact Hat

/-- The counters of a flow's tile. -/
def zeroed (c : Dev nD) (f : Bool) (t : Fin 4) : sProp 𝕄 :=
  iprop(semVal (cell c (kRcv f 0 t)) 0 ∗ semVal (cell c (kRcv f 1 t)) 0
    ∗ semVal (cell c (kCrd f 0 t)) 0 ∗ semVal (cell c (kCrd f 1 t)) 0 ∗ semVal (cell c (kSnd f t)) 0)

theorem close_tile (c : Dev nD) (f : Bool) (t : Fin 4) :
    iprop(recs xs ws K ∗ settled c f t)
      ⊢ iprop(|={Set.univ}=> (zeroed c f t ∗ (slotAny c f 0 t ∗ slotAny c f 1 t) ∗ tileAny c f t)) := by
  unfold settled zeroed
  iintro ⟨#HR, ⟨H1, H2⟩, ⟨H3, H4⟩, H5, Hs, Ht⟩
  imod (close_cell xs ws K c (kRcv f 0 t)) $$ [H1] with H1
  · isplitr; · iexact HR
    iexact H1
  imod (close_cell xs ws K c (kRcv f 1 t)) $$ [H2] with H2
  · isplitr; · iexact HR
    iexact H2
  imod (close_cell xs ws K c (kCrd f 0 t)) $$ [H3] with H3
  · isplitr; · iexact HR
    iexact H3
  imod (close_cell xs ws K c (kCrd f 1 t)) $$ [H4] with H4
  · isplitr; · iexact HR
    iexact H4
  imod (close_cell xs ws K c (kSnd f t)) $$ [H5] with H5
  · isplitr; · iexact HR
    iexact H5
  imodintro
  isplitr [Hs Ht]
  · isplitl [H1]; · iexact H1
    isplitl [H2]; · iexact H2
    isplitl [H3]; · iexact H3
    isplitl [H4]; · iexact H4
    iexact H5
  isplitl [Hs]; · iexact Hs
  iexact Ht

/-- A whole flow at the end: its counters at zero, its buffers whole. -/
theorem close_flow (c : Dev nD) (f : Bool) :
    iprop(recs xs ws K ∗ bigSep Finset.univ fun t => settled c f t)
      ⊢ iprop(|={Set.univ}=> ((bigSep Finset.univ fun t => zeroed c f t) ∗ recvWhole c f ∗ sendWhole c f)) := by
  refine ((each_with Finset.univ (recs xs ws K) _ _ fun t => close_tile xs ws K c f t).trans (bigSep_fupd _ _)).trans (BI.fupd_mono ?_)
  rw [bigSep_sep', bigSep_sep']
  exact sep_mono_right (BI.sep_mono (recv_join c f) (send_join c f))

theorem settledAll_eq (c : Dev nD) :
    (settledAll (F := F) c : sProp 𝕄) = iprop((bigSep Finset.univ fun t => settled (F := F) c false t) ∗ bigSep Finset.univ fun t => settled (F := F) c true t) := by
  rw [← bigSep_sep', bigSep_fin4]; rfl

/-! ## The whole program on a device -/

/-- What a device owes at the start: a unit to each neighbour's barrier, then everything else. -/
def oweOne (c : Dev nD) : CellTallies nD τ sig ℕ := oweCore c + tallyAt (cell (src true c) kBar) 0 1
def oweAll (c : Dev nD) : CellTallies nD τ sig ℕ := oweOne c + tallyAt (cell (src false c) kBar) 0 1

/-- What a device's program starts from, the records and the buffers aside. -/
def deal (c : Dev nD) : sProp 𝕄 :=
  iprop(at₀ c kBar 0 ∗ dutyTok ER (cell (src false c) kBar) 0 false ∗ dutyTok ER (cell (src true c) kBar) 0 true
    ∗ cred (tallyAt (cell c kBar) 0 2)
    ∗ (bigSep Finset.univ fun t => base c false t) ∗ bigSep Finset.univ fun t => base c true t)

/-- The four scratch buffers. -/
def scratch (c : Dev nD) : sProp 𝕄 :=
  iprop(recvWhole (F := F) c false ∗ sendWhole (F := F) c false ∗ recvWhole (F := F) c true ∗ sendWhole (F := F) c true)

/-- All the counters at zero. -/
def zeroes (c : Dev nD) : sProp 𝕄 :=
  iprop(semVal (cell c kBar) 0 ∗ (bigSep Finset.univ fun t => zeroed (F := F) c false t) ∗ bigSep Finset.univ fun t => zeroed (F := F) c true t)

theorem ready_pay (c : Dev nD) (f : Bool) :
    (slotsAny (F := F) c f : sProp 𝕄) = (ringRd xs ws).payload ((src f c : Thread nD τ), SemLoc.reg barS) 0 f := by
  refine Eq.trans ?_ (payload_cell xs ws (src f c) kBar 0 f).symm
  show slotsAny (F := F) c f = barPay (src f c) f
  unfold barPay
  rw [tgt_src]
  rfl

/-- Signalling the neighbour that sends to device `c` along a flow: the landing buffer goes with it. -/
theorem wp_ready (c : Dev nD) (f : Bool) (O : CellTallies nD τ sig ℕ) (p : Pg F) (Q : PUnit → sProp 𝕄) :
    iprop(recs xs ws K ∗ dutyTok ER (cell (src f c) kBar) 0 f ∗ recvWhole c f ∗ owesE c (O + tallyAt (cell (src f c) kBar) 0 1))
      ⊢ iprop((owesE c O -∗ WP c p Q) -∗ WP c (.op (.semSignal (src f c, .tc) barS (1#32).toInt) fun _ => p) Q) := by
  unfold owesE
  iintro ⟨#HR, Ht, Hb, ⟨%W, HO⟩⟩ Hk
  iapply (Rounds.wp_signal 𝒱₀ ER (ringRd xs ws) (c : Thread nD τ) none (dst := (src f c : Thread nD τ)) (κ := K (src f c, kBar))
      (r := 0) (d := f) (mem_duties xs ws (k := kBar) (Finset.mem_univ f)) ((amount_cell xs ws (src f c) kBar 0 f).trans (by decide)) 0 O rfl) $$ [HO Ht Hb]
  · isplitr; · iapply (recs_inv xs ws K (src f c) kBar); iexact HR
    isplitl [HO]; · iexact HO
    isplitl [Ht]; · iexact Ht
    isplitl [Hb]
    · ihave Hb' := (recv_split (F := F) c f) $$ Hb
      iapply (Entails.of_eq (ready_pay xs ws c f))
      iexact Hb'
    iapply (recs_reached xs ws K (src f c) kBar); iexact HR
  iintro HO
  iapply Hk
  iexists W
  iexact HO

theorem left_eq (c : Dev nD) : left c = src false c := rfl
theorem right_eq (c : Dev nD) : right c = src true c := rfl

/-- The program, the device's own number read. -/
theorem program_eq (c : Dev nD) (Q : PUnit → sProp 𝕄) : WP (F := F) c program Q
    = WP c (.op (.semSignal (src false c, .tc) barS (1#32).toInt) fun _ =>
        .op (.semSignal (src true c, .tc) barS (1#32).toInt) fun _ =>
        .op (.semWait barS (2#32).toInt) fun _ => core c) Q := by
  unfold WP program
  rw [wp_deviceId, left_eq, right_eq]

theorem wp_program (c : Dev nD) (g : (cc0_stg2_0 : Ref sig .tc).ty.Contents (Elt F)) (Q : PUnit → sProp 𝕄) :
    iprop(recs xs ws K ∗ deal c ∗ scratch c ∗ inputs xs ws c ∗ outPts c g ∗ owesE c (oweAll c))
      ⊢ iprop(((inputs xs ws c ∗ outPts c (wroteAll xs ws c g) ∗ scratch c ∗ zeroes c ∗ owesE c 0) -∗ Q ⟨⟩)
          -∗ WP c program Q) := by
  rw [program_eq]
  unfold deal scratch oweAll zeroes
  iintro ⟨#HR, ⟨HaB, HtF, HtT, HcB, HbF, HbT⟩, ⟨HrF, HsF, HrT, HsT⟩, Hi, Ho, HO⟩ Hk
  iapply (wp_ready xs ws K c false (oweOne c) _ Q) $$ [HtF HrF HO]
  · isplitr; · iexact HR
    isplitl [HtF]; · iexact HtF
    isplitl [HrF]; · iexact HrF
    iexact HO
  iintro HO
  unfold oweOne
  iapply (wp_ready xs ws K c true (oweCore c) _ Q) $$ [HtT HrT HO]
  · isplitr; · iexact HR
    isplitl [HtT]; · iexact HtT
    isplitl [HrT]; · iexact HrT
    iexact HO
  iintro HO
  unfold owesE
  icases HO with ⟨%W, HO⟩
  iapply (Rounds.wp_wait_rest_token 𝒱₀ ER (ringRd xs ws) (c : Thread nD τ) none (κ := K (c, kBar))
      (wpE_semWait_eq 𝒱₀ (c : Thread nD τ) none Set.univ) (Set.mem_univ _) 0
      (O := oweCore c) (W := W) (R := 0) (m := 0) (T := ∅) (show 0 + (2#32).toNat = (ringRd xs ws).expect (cell c kBar) 0 from by rw [expect_bar]; decide)) $$ [HcB HO HaB]
  · isplitr; · iapply (recs_inv xs ws K c kBar); iexact HR
    isplitl [HcB]; · iexact HcB
    isplitl [HO]; · iexact HO
    isplitr
    · iapply (recs_mayWait xs ws K c kBar (i := 0) (by decide) (above_core c (b := 1) le_rfl)); iexact HR
    iexact HaB
  iintro ⟨HO, HaB, -, Hpay⟩
  ihave Hp := (Entails.of_eq (show bigSep ((ringRd xs ws).duties ((c : Thread nD τ), SemLoc.reg barS) 0 \ ∅)
      (fun d => (ringRd xs ws).payload ((c : Thread nD τ), SemLoc.reg barS) 0 d) = iprop(barPay c false ∗ barPay c true) from rest_bar xs ws c)) $$ Hpay
  icases Hp with ⟨HpF, HpT⟩
  ihave HsF' := (send_split (F := F) c false) $$ HsF
  ihave HsT' := (send_split (F := F) c true) $$ HsT
  iapply (wp_core xs ws K c g Q) $$ [HpF HpT HsF' HsT' HbF HbT Hi Ho HO]
  · isplitr; · iexact HR
    isplitl [Hi]; · iexact Hi
    isplitl [HpF HpT HsF' HsT' HbF HbT]
    · iapply (Entails.of_eq (freshAll_eq (F := F) c).symm)
      isplitl [HpF HsF' HbF]
      · iapply (fresh_flow (F := F) c false)
        isplitl [HbF]; · iexact HbF
        isplitl [HsF']; · iexact HsF'
        iexact HpF
      · iapply (fresh_flow (F := F) c true)
        isplitl [HbT]; · iexact HbT
        isplitl [HsT']; · iexact HsT'
        iexact HpT
    isplitl [Ho]; · iexact Ho
    unfold owesE
    iexists _; iexact HO
  iintro ⟨Hi, Hs, Ho, HO⟩
  ihave Hs' := (Entails.of_eq (settledAll_eq (F := F) c)) $$ Hs
  icases Hs' with ⟨HsF, HsT⟩
  imod (close_flow xs ws K c false) $$ [HsF] with ⟨HzF, HrF, HsF⟩
  · isplitr; · iexact HR
    iexact HsF
  imod (close_flow xs ws K c true) $$ [HsT] with ⟨HzT, HrT, HsT⟩
  · isplitr; · iexact HR
    iexact HsT
  ihave HaB' := (show (atPos ER ((c : Thread nD τ), SemLoc.reg barS) (0 + 1) ∅ 0 : sProp 𝕄) ⊢ atEnd c kBar from
    atEnd_intro c kBar (0 + 1) (fun r hr => if_neg (by omega))) $$ HaB
  imod (close_cell xs ws K c kBar) $$ [HaB'] with HzB
  · isplitr; · iexact HR
    iexact HaB'
  imodintro
  iapply Hk
  isplitl [Hi]; · iexact Hi
  isplitl [Ho]; · iexact Ho
  isplitl [HrF HsF HrT HsT]
  · isplitl [HrF]; · iexact HrF
    isplitl [HsF]; · iexact HsF
    isplitl [HrT]; · iexact HrT
    iexact HsT
  isplitr [HO]
  · isplitl [HzB]; · iexact HzB
    isplitl [HzF]; · iexact HzF
    iexact HzT
  unfold owesE
  iexact HO

end Cert.Ring

end
-- ==== Proof.Credits.lean ====
/-
The credit the launch deals each device for what the others owe it.
-/
module

public import proofs.«01_k».proof.Proof.Device

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What each device is credited at the launch -/

/-- Credit for a credit and for a landing. -/
def dueC (c : Dev nD) (f : Bool) (t : Fin 4) (s : ℕ) : sProp 𝕄 := cred (tallyAt (cell c (kCrd f (slotOf s) t)) s 1)
def dueR (c : Dev nD) (f : Bool) (t : Fin 4) (s : ℕ) : sProp 𝕄 := cred (tallyAt (cell c (kRcv f (slotOf s) t)) s N)

/-- What step `s` of a tile pays device `c`: the credit of transfer `s` and transfer `s + 1`, if there are such. -/
def got (c : Dev nD) (f : Bool) (t : Fin 4) (s : ℕ) : sProp 𝕄 :=
  iprop((if s + 3 ≤ cnt f then dueC (F := F) c f t s else iprop(emp)) ∗ (if s + 1 < cnt f then dueR (F := F) c f t (s + 1) else iprop(emp)))

theorem got_C (c : Dev nD) (f : Bool) (t : Fin 4) (s : ℕ) :
    (Pipeline.launchCred (fun d => payC d f s t) c : sProp 𝕄) ⊢ if s + 3 ≤ cnt f then dueC (F := F) c f t s else iprop(emp) := by
  unfold payC
  by_cases h : s + 3 ≤ cnt f
  · simp only [if_pos h]
    exact Pipeline.launchCred_tallyAt (csem (kCrd f (slotOf s) t)) (src f) (tgt f) (src_tgt f) (tgt_src f) s 1 c
  · simp only [if_neg h]
    exact Entails.of_eq (Pipeline.launchCred_zero c)
theorem got_R (c : Dev nD) (f : Bool) (t : Fin 4) (s : ℕ) :
    (Pipeline.launchCred (fun d => payS d f s t) c : sProp 𝕄) ⊢ if s + 1 < cnt f then dueR (F := F) c f t (s + 1) else iprop(emp) := by
  unfold payS
  by_cases h : s + 1 < cnt f
  · simp only [if_pos h]
    exact Pipeline.launchCred_tallyAt (csem (kRcv f (slotOf (s + 1)) t)) (tgt f) (src f) (tgt_src f) (src_tgt f) (s + 1) N c
  · simp only [if_neg h]
    exact Entails.of_eq (Pipeline.launchCred_zero c)

theorem credit_tile (s : ℕ) (t : Fin 4) (O : Dev nD → CellTallies nD τ sig ℕ) (c : Dev nD) :
    (Pipeline.launchCred (fun d => oweTile d s t (O d)) c : sProp 𝕄)
      ⊢ iprop(Pipeline.launchCred O c ∗ got (F := F) c false t s ∗ got (F := F) c true t s) := by
  unfold oweTile got
  rw [Pipeline.launchCred_add, Pipeline.launchCred_add, Pipeline.launchCred_add, Pipeline.launchCred_add]
  iintro ⟨⟨⟨⟨HO, H1⟩, H2⟩, H3⟩, H4⟩
  isplitl [HO]; · iexact HO
  isplitl [H3 H4]
  · isplitl [H3]; · iapply (got_C (F := F) c false t s) $$ H3
    iapply (got_R (F := F) c false t s) $$ H4
  isplitl [H1]; · iapply (got_C (F := F) c true t s) $$ H1
  iapply (got_R (F := F) c true t s) $$ H2

theorem credit_step (s : ℕ) (O : Dev nD → CellTallies nD τ sig ℕ) (c : Dev nD) :
    (Pipeline.launchCred (fun d => oweStep d s (O d)) c : sProp 𝕄)
      ⊢ iprop(Pipeline.launchCred O c ∗ bigSep Finset.univ fun t => iprop(got (F := F) c false t s ∗ got (F := F) c true t s)) := by
  unfold oweStep
  rw [bigSep_fin4]
  iintro H
  ihave H := (credit_tile (F := F) s 0 (fun d => oweTile d s 1 (oweTile d s 2 (oweTile d s 3 (O d)))) c) $$ H
  icases H with ⟨H, H0⟩
  ihave H := (credit_tile (F := F) s 1 (fun d => oweTile d s 2 (oweTile d s 3 (O d))) c) $$ H
  icases H with ⟨H, H1⟩
  ihave H := (credit_tile (F := F) s 2 (fun d => oweTile d s 3 (O d)) c) $$ H
  icases H with ⟨H, H2⟩
  ihave H := (credit_tile (F := F) s 3 O c) $$ H
  icases H with ⟨H, H3⟩
  isplitl [H]; · iexact H
  isplitl [H0]; · iexact H0
  isplitl [H1]; · iexact H1
  isplitl [H2]; · iexact H2
  iexact H3

theorem credit_from (c : Dev nD) : ∀ n s : ℕ,
    (Pipeline.launchCred (fun d => oweFrom d s n) c : sProp 𝕄)
      ⊢ bigSep (Finset.Ico s (s + n)) fun i => bigSep Finset.univ fun t => iprop(got (F := F) c false t i ∗ got (F := F) c true t i)
  | 0, s => by
    rw [Nat.add_zero, Finset.Ico_self, BI.bigSep_empty]
    exact Entails.of_eq (Pipeline.launchCred_zero c)
  | n + 1, s => by
    rw [take_first (F := F) (by omega)]
    refine (credit_step (F := F) s (fun d => oweFrom d (s + 1) n) c).trans ?_
    iintro ⟨H, H0⟩
    isplitl [H0]; · iexact H0
    rw [show s + (n + 1) = s + 1 + n from by omega]
    iapply (credit_from c n (s + 1)) $$ H

theorem credit_open (t : Fin 4) (O : Dev nD → CellTallies nD τ sig ℕ) (c : Dev nD) :
    (Pipeline.launchCred (fun d => oweOpen d t (O d)) c : sProp 𝕄)
      ⊢ iprop(Pipeline.launchCred O c ∗ dueR (F := F) c false t 0 ∗ dueR (F := F) c true t 0) := by
  unfold oweOpen dueR
  rw [Pipeline.launchCred_add, Pipeline.launchCred_add]
  iintro ⟨⟨HO, H1⟩, H2⟩
  isplitl [HO]; · iexact HO
  isplitl [H2]
  · iapply (Pipeline.launchCred_tallyAt (csem (kRcv false (slotOf 0) t)) (tgt false) (src false) (tgt_src false) (src_tgt false) 0 N c) $$ H2
  iapply (Pipeline.launchCred_tallyAt (csem (kRcv true (slotOf 0) t)) (tgt true) (src true) (tgt_src true) (src_tgt true) 0 N c) $$ H1

theorem credit_core (c : Dev nD) :
    (Pipeline.launchCred oweCore c : sProp 𝕄)
      ⊢ iprop((bigSep (Finset.Ico 0 15) fun i => bigSep Finset.univ fun t => iprop(got (F := F) c false t i ∗ got (F := F) c true t i))
        ∗ bigSep Finset.univ fun t => iprop(dueR (F := F) c false t 0 ∗ dueR (F := F) c true t 0)) := by
  rw [bigSep_fin4 (fun t => iprop(dueR (F := F) c false t 0 ∗ dueR (F := F) c true t 0)),
    show (oweCore : Dev nD → CellTallies nD τ sig ℕ)
      = fun d => oweOpen d 0 (oweOpen d 1 (oweOpen d 2 (oweOpen d 3 (oweFrom d 0 15)))) from rfl]
  iintro H
  ihave H := (credit_open (F := F) 0 (fun d => oweOpen d 1 (oweOpen d 2 (oweOpen d 3 (oweFrom d 0 15)))) c) $$ H
  icases H with ⟨H, H0⟩
  ihave H := (credit_open (F := F) 1 (fun d => oweOpen d 2 (oweOpen d 3 (oweFrom d 0 15))) c) $$ H
  icases H with ⟨H, H1⟩
  ihave H := (credit_open (F := F) 2 (fun d => oweOpen d 3 (oweFrom d 0 15)) c) $$ H
  icases H with ⟨H, H2⟩
  ihave H := (credit_open (F := F) 3 (fun d => oweFrom d 0 15) c) $$ H
  icases H with ⟨H, H3⟩
  isplitl [H]; · iapply (credit_from (F := F) c 15 0) $$ H
  isplitl [H0]; · iexact H0
  isplitl [H1]; · iexact H1
  isplitl [H2]; · iexact H2
  iexact H3

/-- One flow's tile has all the credit it waits for. -/
theorem credit_flow (c : Dev nD) (f : Bool) (t : Fin 4) :
    iprop((bigSep (Finset.Ico 0 15) fun i => got (F := F) c f t i) ∗ dueR (F := F) c f t 0) ⊢ iprop(credR (F := F) c f t 0 ∗ credC (F := F) c f t 0) := by
  have h := cnt_ge f
  have h' := cnt_le f
  have hC : (bigSep (Finset.Ico 0 15) fun i => (if i + 3 ≤ cnt f then dueC (F := F) c f t i else iprop(emp) : sProp 𝕄)) ⊢ credC (F := F) c f t 0 := by
    unfold credC
    refine (bigSep_subset (show Finset.Ico 0 (cnt f - 2) ⊆ Finset.Ico 0 15 from Finset.Ico_subset_Ico_right (by omega))).trans ?_
    exact bigSep_mono fun i hi =>
      Entails.of_eq (P := if i + 3 ≤ cnt f then dueC (F := F) c f t i else iprop(emp)) (Q := dueC (F := F) c f t i)
        (if_pos (show i + 3 ≤ cnt f by have := Finset.mem_Ico.mp hi; omega))
  have hR : (bigSep (Finset.Ico 0 15) fun i => (if i + 1 < cnt f then dueR (F := F) c f t (i + 1) else iprop(emp) : sProp 𝕄))
      ⊢ bigSep (Finset.Ico (0 + 1) (cnt f)) fun i => dueR (F := F) c f t i := by
    refine (bigSep_subset (show Finset.Ico 0 (cnt f - 1) ⊆ Finset.Ico 0 15 from Finset.Ico_subset_Ico_right (by omega))).trans ?_
    refine (bigSep_mono (s := Finset.Ico 0 (cnt f - 1)) (Ψ := fun i => dueR (F := F) c f t (i + 1)) fun i hi =>
      Entails.of_eq (P := if i + 1 < cnt f then dueR (F := F) c f t (i + 1) else iprop(emp)) (Q := dueR (F := F) c f t (i + 1))
        (if_pos (show i + 1 < cnt f by have := Finset.mem_Ico.mp hi; omega))).trans ?_
    refine Entails.of_eq (P := bigSep (Finset.Ico 0 (cnt f - 1)) fun i => dueR (F := F) c f t (i + 1))
      (Q := bigSep (Finset.Ico (0 + 1) (cnt f)) fun i => dueR (F := F) c f t i) ?_
    rw [show Finset.Ico (0 + 1) (cnt f) = (Finset.Ico 0 (cnt f - 1)).map (addRightEmbedding 1) from by
      ext x
      simp only [Finset.mem_map, Finset.mem_Ico, addRightEmbedding_apply]
      exact ⟨fun hx => ⟨x - 1, by omega, by omega⟩, fun ⟨y, hy, e⟩ => by omega⟩, BI.bigSep_map]
    rfl
  unfold got
  rw [bigSep_sep']
  iintro ⟨⟨HC, HR⟩, H0⟩
  isplitr [HC]
  · iapply (Entails.of_eq (credR_take (F := F) (c := c) (f := f) (t := t) (s := 0) (by omega)).symm)
    isplitl [H0]; · unfold dueR; iexact H0
    iapply (show (bigSep (Finset.Ico (0 + 1) (cnt f)) fun i => dueR (F := F) c f t i) ⊢ credR (F := F) c f t (0 + 1) from Entails.refl _)
    iapply hR $$ HR
  iapply hC $$ HC

/-- Steps of tiles are tiles of steps. -/
theorem by_tile (A : Finset ℕ) (Φ : ℕ → Fin 4 → sProp 𝕄) :
    (bigSep A fun i => bigSep Finset.univ fun t => Φ i t) = bigSep Finset.univ fun t => bigSep A fun i => Φ i t := by
  simp only [bigSep_fin4, bigSep_sep']

/-- A device's launch credit: two units on its barrier, and every flow's. -/
theorem credits (c : Dev nD) :
    (Pipeline.launchCred oweAll c : sProp 𝕄)
      ⊢ iprop(cred (tallyAt (cell c kBar) 0 2)
        ∗ (bigSep Finset.univ fun t => iprop(credR (F := F) c false t 0 ∗ credC (F := F) c false t 0))
        ∗ bigSep Finset.univ fun t => iprop(credR (F := F) c true t 0 ∗ credC (F := F) c true t 0)) := by
  have h : ∀ f : Bool, (Pipeline.launchCred (fun d => tallyAt (cell (src f d) kBar) 0 1) c : sProp 𝕄) ⊢ cred (tallyAt (cell c kBar) 0 1) :=
    fun f => Pipeline.launchCred_tallyAt (csem kBar) (src f) (tgt f) (src_tgt f) (tgt_src f) 0 1 c
  have h2 : (iprop(cred (tallyAt (cell c kBar) 0 1) ∗ cred (tallyAt (cell c kBar) 0 1)) : sProp 𝕄) ⊢ cred (tallyAt (cell c kBar) 0 2) :=
    (cred_add _ _).2.trans (Entails.of_eq (by rw [tallyAt_add]))
  have hf (f : Bool) : (iprop((bigSep Finset.univ fun t => bigSep (Finset.Ico 0 15) fun i => got (F := F) c f t i) ∗ bigSep Finset.univ fun t => dueR (F := F) c f t 0) : sProp 𝕄)
      ⊢ bigSep Finset.univ fun t => iprop(credR (F := F) c f t 0 ∗ credC (F := F) c f t 0) := by
    rw [← bigSep_sep']
    exact bigSep_mono fun t _ => credit_flow c f t
  rw [show (oweAll : Dev nD → CellTallies nD τ sig ℕ)
      = fun d => (oweCore d + tallyAt (cell (src true d) kBar) 0 1) + tallyAt (cell (src false d) kBar) 0 1 from rfl,
    Pipeline.launchCred_add, Pipeline.launchCred_add]
  iintro ⟨⟨H, HT⟩, HF⟩
  ihave HT := (h true) $$ HT
  ihave HF := (h false) $$ HF
  ihave H := (credit_core (F := F) c) $$ H
  icases H with ⟨H, HD⟩
  ihave H := (Entails.of_eq (by_tile (F := F) _ _)) $$ H
  ihave H := (Entails.of_eq (bigSep_congr (s := Finset.univ) fun t _ => bigSep_sep' (Finset.Ico 0 15) (fun i => got (F := F) c false t i) (fun i => got (F := F) c true t i))) $$ H
  ihave H := (Entails.of_eq (bigSep_sep' _ _ _)) $$ H
  ihave HD := (Entails.of_eq (bigSep_sep' _ _ _)) $$ HD
  icases H with ⟨H1, H2⟩
  icases HD with ⟨D1, D2⟩
  isplitl [HT HF]
  · iapply h2
    isplitl [HT]; · iexact HT
    iexact HF
  isplitl [H1 D1]
  · iapply (hf false)
    isplitl [H1]; · iexact H1
    iexact D1
  iapply (hf true)
  isplitl [H2]; · iexact H2
  iexact D2

end Cert.Ring

end
-- ==== Proof.Tokens.lean ====
/-
The duty tokens: minted with each device's own cells, and dealt to the devices that pay with them.
-/
module

public import proofs.«01_k».proof.Proof.Credits

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Cells by kind -/

/-- A device's cells: its barrier, and each flow's tile's. -/
theorem by_kind (Φ : CellK → sProp 𝕄) :
    bigSep Finset.univ Φ
      = iprop(Φ kBar ∗ bigSep Finset.univ fun f : Bool => bigSep Finset.univ fun t : Fin 4 =>
          iprop(Φ (kSnd f t) ∗ (Φ (kRcv f 0 t) ∗ Φ (kRcv f 1 t)) ∗ (Φ (kCrd f 0 t) ∗ Φ (kCrd f 1 t)))) := by
  have hU (Ψ : Unit → sProp 𝕄) : bigSep Finset.univ Ψ = Ψ () := BI.bigSep_univ_of_subsingleton ()
  have hS {A B : Type} [Fintype A] [Fintype B] (Ψ : A ⊕ B → sProp 𝕄) : bigSep Finset.univ Ψ
      = iprop(bigSep Finset.univ (fun a => Ψ (.inl a)) ∗ bigSep Finset.univ (fun b => Ψ (.inr b))) := BI.bigSep_univ_sum Ψ
  rw [hS, hU, hS, hS, bigSep_univ_prod, bigSep_univ_prod, bigSep_univ_prod]
  simp only [bigSep_univ_prod, bigSep_fin2, bigSep_sep']

/-! ## Transfers as slots and rounds -/

/-- Every slot's rounds hold every transfer's. -/
theorem by_transfer (n : ℕ) (hn : n ≤ 32) (Ψ : Fin 2 → ℕ → sProp 𝕄) :
    iprop((bigSep Finset.univ fun r : Fin 16 => Ψ 0 r.val) ∗ bigSep Finset.univ fun r : Fin 16 => Ψ 1 r.val)
      ⊢ bigSep (Finset.Ico 0 n) fun i => Ψ (slotOf i) (i / 2) := by
  have h1 : (bigSep (Finset.Ico 0 32) fun i => Ψ (slotOf i) (i / 2))
      = bigSep Finset.univ fun i : Fin 32 => Ψ (slotOf i.val) (i.val / 2) := by
    rw [show Finset.Ico 0 32 = (Finset.univ : Finset (Fin 32)).map Fin.valEmbedding from by decide, BI.bigSep_map]
    rfl
  have h2 (x : Fin 16 × Fin 2) : Ψ (slotOf (finProdFinEquiv x).val) ((finProdFinEquiv x).val / 2) = Ψ x.2 x.1.val := by
    have hv : (finProdFinEquiv x).val = x.2.val + 2 * x.1.val := rfl
    rw [hv]
    congr 1
    · congr 1
      refine Fin.ext ?_
      show (x.2.val + 2 * x.1.val) % 2 = x.2.val
      omega
    · omega
  refine BIBase.Entails.trans (Entails.of_eq ?_)
    (bigSep_subset (show Finset.Ico 0 n ⊆ Finset.Ico 0 32 from Finset.Ico_subset_Ico_right hn))
  have h3 : (bigSep Finset.univ fun i : Fin 32 => Ψ (slotOf i.val) (i.val / 2)) = bigSep Finset.univ fun x : Fin 16 × Fin 2 => Ψ x.2 x.1.val :=
    (bigSep_univ_equiv (finProdFinEquiv (m := 16) (n := 2)) fun i : Fin 32 => Ψ (slotOf i.val) (i.val / 2)).trans (bigSep_congr fun x _ => h2 x)
  rw [h1, h3, bigSep_univ_prod]
  simp only [bigSep_fin2, bigSep_sep']

/-! ## The tokens -/

/-- A flow's tile's tokens: as held by their payers' devices `p` (landings) and `q` (credits). -/
def hand (c p q : Dev nD) (f : Bool) (t : Fin 4) : sProp 𝕄 := iprop(tokS (F := F) c f t 0 ∗ tokR (F := F) p f t 0 ∗ tokC (F := F) q f t 0)

/-- The tokens of device `c`'s own cells; -/
def mine (c : Dev nD) : sProp 𝕄 :=
  iprop(dutyTok ER (cell c kBar) 0 false ∗ dutyTok ER (cell c kBar) 0 true
    ∗ (bigSep Finset.univ fun t => hand (F := F) c (src false c) (tgt false c) false t)
    ∗ bigSep Finset.univ fun t => hand (F := F) c (src true c) (tgt true c) true t)
/-- the tokens device `c` pays with. -/
def pays (c : Dev nD) : sProp 𝕄 :=
  iprop(dutyTok ER (cell (src false c) kBar) 0 false ∗ dutyTok ER (cell (src true c) kBar) 0 true
    ∗ (bigSep Finset.univ fun t => hand (F := F) c c c false t)
    ∗ bigSep Finset.univ fun t => hand (F := F) c c c true t)

theorem going (f : Bool) (Φ : Dev nD → sProp 𝕄) : (bigSep Finset.univ fun c => Φ (src f c)) = bigSep Finset.univ Φ :=
  (bigSep_univ_equiv (along f).symm Φ).symm
theorem coming (f : Bool) (Φ : Dev nD → sProp 𝕄) : (bigSep Finset.univ fun c => Φ (tgt f c)) = bigSep Finset.univ Φ :=
  (bigSep_univ_equiv (along f) Φ).symm

/-- The tokens dealt around the ring. -/
theorem around : (bigSep Finset.univ fun c : Dev nD => (mine (F := F) c : sProp 𝕄)) = bigSep Finset.univ fun c : Dev nD => pays (F := F) c := by
  unfold mine pays hand
  simp only [bigSep_sep']
  rw [going false (fun c => dutyTok ER (cell c kBar) 0 false), going true (fun c => dutyTok ER (cell c kBar) 0 true),
    going false (fun c => bigSep Finset.univ fun t => tokR (F := F) c false t 0), going true (fun c => bigSep Finset.univ fun t => tokR (F := F) c true t 0),
    coming false (fun c => bigSep Finset.univ fun t => tokC (F := F) c false t 0), coming true (fun c => bigSep Finset.univ fun t => tokC (F := F) c true t 0)]

/-- A cell's minted tokens. -/
def minted (g : GSem nD τ sig) : sProp 𝕄 :=
  bigSep Finset.univ fun b : Bool => bigSep Finset.univ fun r : Fin 16 => dutyTok ER g r.val b

theorem minted_false (g : GSem nD τ sig) : minted (F := F) g ⊢ bigSep Finset.univ fun r : Fin 16 => dutyTok ER g r.val false := by
  unfold minted
  rw [bigSep_bool]
  iintro ⟨H, H'⟩
  iexact H

theorem minted_bar (g : GSem nD τ sig) : minted (F := F) g ⊢ iprop(dutyTok ER g 0 false ∗ dutyTok ER g 0 true) := by
  have h (b : Bool) : (bigSep Finset.univ fun r : Fin 16 => (dutyTok ER g r.val b : sProp 𝕄)) ⊢ dutyTok ER g 0 b :=
    bigSep_elim (Φ := fun r : Fin 16 => (dutyTok ER g r.val b : sProp 𝕄)) (Finset.mem_univ (0 : Fin 16))
  unfold minted
  rw [bigSep_bool]
  iintro ⟨H, H'⟩
  isplitl [H]; · iapply (h false) $$ H
  iapply (h true) $$ H'

/-- The minted tokens of a flow's tile's cells. -/
theorem minted_tile (c : Dev nD) (f : Bool) (t : Fin 4) :
    iprop(minted (F := F) (cell c (kSnd f t)) ∗ (minted (F := F) (cell c (kRcv f 0 t)) ∗ minted (F := F) (cell c (kRcv f 1 t)))
        ∗ (minted (F := F) (cell c (kCrd f 0 t)) ∗ minted (F := F) (cell c (kCrd f 1 t))))
      ⊢ hand (F := F) c (src f c) (tgt f c) f t := by
  have h := cnt_le f
  have hS : (bigSep Finset.univ fun r : Fin 16 => (dutyTok ER (cell c (kSnd f t)) r.val false : sProp 𝕄)) ⊢ tokS (F := F) c f t 0 := by
    unfold tokS
    refine BIBase.Entails.trans (Entails.of_eq ?_) (bigSep_subset (show Finset.Ico 0 (cnt f) ⊆ Finset.Ico 0 16 from Finset.Ico_subset_Ico_right h))
    rw [show Finset.Ico 0 16 = (Finset.univ : Finset (Fin 16)).map Fin.valEmbedding from by decide, BI.bigSep_map]
    rfl
  have hR := by_transfer (F := F) (cnt f) (by omega) fun sl r => dutyTok ER (cell c (kRcv f sl t)) r false
  have hC := by_transfer (F := F) (cnt f - 2) (by omega) fun sl r => dutyTok ER (cell c (kCrd f sl t)) r false
  unfold hand tokR tokC
  rw [tgt_src, src_tgt]
  iintro ⟨HS, ⟨H1, H2⟩, H3, H4⟩
  ihave HS := (minted_false (F := F) _) $$ HS
  ihave H1 := (minted_false (F := F) _) $$ H1
  ihave H2 := (minted_false (F := F) _) $$ H2
  ihave H3 := (minted_false (F := F) _) $$ H3
  ihave H4 := (minted_false (F := F) _) $$ H4
  isplitl [HS]; · iapply hS $$ HS
  isplitl [H1 H2]
  · iapply hR
    isplitl [H1]; · iexact H1
    iexact H2
  iapply hC
  isplitl [H3]; · iexact H3
  iexact H4

theorem minted_all (c : Dev nD) : (bigSep Finset.univ fun k : CellK => minted (F := F) (cell c k)) ⊢ mine (F := F) c := by
  have h (f : Bool) : (bigSep Finset.univ fun t : Fin 4 => iprop(minted (F := F) (cell c (kSnd f t))
        ∗ (minted (F := F) (cell c (kRcv f 0 t)) ∗ minted (F := F) (cell c (kRcv f 1 t)))
        ∗ (minted (F := F) (cell c (kCrd f 0 t)) ∗ minted (F := F) (cell c (kCrd f 1 t)))))
      ⊢ bigSep Finset.univ fun t => hand (F := F) c (src f c) (tgt f c) f t := bigSep_mono fun t _ => minted_tile c f t
  rw [by_kind, bigSep_bool]
  unfold mine
  iintro ⟨HB, H1, H2⟩
  ihave HB := (minted_bar (F := F) _) $$ HB
  icases HB with ⟨A, B⟩
  isplitl [A]; · iexact A
  isplitl [B]; · iexact B
  isplitl [H1]
  · iapply (h false)
    iexact H1
  iapply (h true)
  iexact H2

end Cert.Ring

end
-- ==== Proof.Ghost.lean ====
/-
What the launch sets up: the cells' invariants, and what each device starts from.
-/
module

public import proofs.«01_k».proof.Proof.Tokens
public import proofs.«01_k».proof.Proof.Gen.KernelIdeal.Launch

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (cc0_stg0_0 : Ref sig .tc).ty.Contents (Elt F))
variable (ws : Dev nD → (cc0_stg1_0 : Ref sig .tc).ty.Contents (Elt F))

/-! ## The element the launch starts from -/

abbrev cellAt (ck : Dev nD × CellK) : GSem nD τ sig := cell ck.1 ck.2
theorem cellAt_injective : Function.Injective cellAt := fun a b h =>
  Prod.ext (congrArg (fun g : GSem nD τ sig => g.1.1) h) (csem_injective (congrArg Prod.snd h))

abbrev tokAt (x : (Dev nD × CellK) × (Bool × Fin 16)) : GSem nD τ sig × ℕ × Bool := (cellAt x.1, x.2.2.val, x.2.1)
theorem tokAt_injective : Function.Injective tokAt := fun a b h => by
  have h1 := cellAt_injective (congrArg Prod.fst h)
  have h2 := congrArg (fun y : GSem nD τ sig × ℕ × Bool => y.2.1) h
  have h3 := congrArg (fun y : GSem nD τ sig × ℕ × Bool => y.2.2) h
  exact Prod.ext h1 (Prod.ext h3 (Fin.ext h2))

def ringCells : Finset (GSem nD τ sig) := Finset.univ.map ⟨cellAt, cellAt_injective⟩
def ringToks : Finset (GSem nD τ sig × ℕ × Bool) := Finset.univ.map ⟨tokAt, tokAt_injective⟩

def u₀ : UU := (initOf (Pipeline.cells cfgs cellOf_inj) (Pipeline.launchToks cfgs cellOf_inj), initOf ringCells ringToks)

/-- What the launch element deals device `c`: for its cells the round states, its positions, the marks of round 0, the tokens. -/
def G (c : Dev nD) : sProp 𝕄 :=
  iprop((bigSep Finset.univ fun k : CellK => roundState ER (ringRd xs ws) (cell c k) 0)
    ∗ (bigSep Finset.univ fun k : CellK => at₀ (F := F) c k 0) ∗ (bigSep Finset.univ fun k : CellK => reached ER (cell c k) 0) ∗ mine (F := F) c)

/-- The records that are not levels. -/
def marks (K : Dev nD × CellK → ℕ) : sProp 𝕄 :=
  iprop((bigSep Finset.univ fun ck : Dev nD × CellK => cellInv ER (ringRd xs ws) (K ck) (cell ck.1 ck.2))
    ∗ bigSep Finset.univ fun ck : Dev nD × CellK => reached ER (cell ck.1 ck.2) 0)
instance marks_persistent (K : Dev nD × CellK → ℕ) : BI.Persistent (marks xs ws K) := by unfold marks; infer_instance

/-- What the global step makes of it. -/
def G' (c : Dev nD) : sProp 𝕄 :=
  iprop(∃ K, marks xs ws K ∗ (bigSep Finset.univ fun k : CellK => at₀ (F := F) c k 0) ∗ pays (F := F) c)

theorem over_cells (Φ : GSem nD τ sig → sProp 𝕄) :
    bigSep ringCells Φ = bigSep Finset.univ fun c : Dev nD => bigSep Finset.univ fun k : CellK => Φ (cell c k) := by
  unfold ringCells; rw [BI.bigSep_map, bigSep_univ_prod]; rfl

theorem over_toks : (bigSep ringToks fun x => (dutyTok ER x.1 x.2.1 x.2.2 : sProp 𝕄))
    = bigSep Finset.univ fun c : Dev nD => bigSep Finset.univ fun k : CellK => minted (F := F) (cell c k) := by
  unfold ringToks minted
  rw [BI.bigSep_map, bigSep_univ_prod, bigSep_univ_prod]
  refine bigSep_congr fun c _ => bigSep_congr fun k _ => ?_
  rw [bigSep_univ_prod]
  rfl

theorem fund_ring : BI.own (ER (initOf ringCells ringToks)) ⊢ (|==> bigSep Finset.univ (G xs ws) : sProp 𝕄) := by
  have hT : (bigSep Finset.univ fun c : Dev nD => bigSep Finset.univ fun k : CellK => minted (F := F) (cell c k))
      ⊢ bigSep Finset.univ fun c : Dev nD => mine (F := F) c := bigSep_mono fun c _ => minted_all c
  iintro HX
  imod (Rounds.fund ER (ringRd xs ws) ringCells ringToks) $$ HX with ⟨Hst, Hr, Hat, Htok⟩
  imodintro
  ihave Hst := (Entails.of_eq (over_cells (F := F) fun g => roundState ER (ringRd xs ws) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G
  simp only [bigSep_sep']
  isplitl [Hst]; · iexact Hst
  isplitl [Hat]; · iexact Hat
  isplitl [Hr]; · iexact Hr
  iapply hT $$ Htok

/-! ## The counters -/

/-- The kernel's own semaphores and the barrier's are the device's cells. -/
theorem sems_eq (c : Dev nD) :
    (bigSep Finset.univ fun k : CellK => (semVal (cell c k) 0 : sProp 𝕄))
      = iprop(unscopedSems0 c ∗ Pipeline.ownSems0 (Ix := ℕ) (Name := ℕ) (U := UU) (Lvl := ℕ) (Val := Elt F) (τ := τ) osem c) := by
  have hu : (unscopedSems0 c : sProp 𝕄) = semVal (cell c kBar) 0 := by
    unfold unscopedSems0; rw [bigSep_eq_bigSepL_of_eq [SemLoc.reg barS] (by decide) (by decide)]; rfl
  have hs : (bigSep Finset.univ fun k : CellK => (semVal (cell c k) 0 : sProp 𝕄))
      = iprop((bigSep Finset.univ fun k : Unit => semVal (cell c (.inl k)) 0) ∗ bigSep Finset.univ fun k : OwnK => semVal (cell c (.inr k)) 0) :=
    BI.bigSep_univ_sum _
  have hb : (bigSep Finset.univ fun k : Unit => (semVal (cell c (.inl k)) 0 : sProp 𝕄)) = semVal (cell c kBar) 0 := BI.bigSep_univ_of_subsingleton ()
  rw [hu, hs, hb]
  rfl

/-- All counters at zero, device by device as the program leaves them. -/
theorem zeroes_sems (c : Dev nD) : zeroes (F := F) c ⊢ bigSep Finset.univ fun k : CellK => (semVal (cell c k) 0 : sProp 𝕄) := by
  have h (f : Bool) : (bigSep Finset.univ fun t : Fin 4 => zeroed (F := F) c f t)
      ⊢ bigSep Finset.univ fun t : Fin 4 => iprop(semVal (cell c (kSnd f t)) 0
        ∗ (semVal (cell c (kRcv f 0 t)) 0 ∗ semVal (cell c (kRcv f 1 t)) 0) ∗ (semVal (cell c (kCrd f 0 t)) 0 ∗ semVal (cell c (kCrd f 1 t)) 0)) := by
    refine bigSep_mono fun t _ => ?_
    show zeroed (F := F) c f t ⊢ iprop(semVal (cell c (kSnd f t)) 0
        ∗ (semVal (cell c (kRcv f 0 t)) 0 ∗ semVal (cell c (kRcv f 1 t)) 0) ∗ (semVal (cell c (kCrd f 0 t)) 0 ∗ semVal (cell c (kCrd f 1 t)) 0))
    unfold zeroed
    iintro ⟨H1, H2, H3, H4, H5⟩
    isplitl [H5]; · iexact H5
    isplitl [H1 H2]
    · isplitl [H1]; · iexact H1
      iexact H2
    isplitl [H3]; · iexact H3
    iexact H4
  rw [by_kind, bigSep_bool]
  unfold zeroes
  iintro ⟨HB, H1, H2⟩
  isplitl [HB]; · iexact HB
  isplitl [H1]; · iapply (h false) $$ H1
  iapply (h true) $$ H2

/-! ## The invariants -/

theorem core_alloc (c : Dev nD) :
    iprop(Pipeline.ownSems0 (Ix := ℕ) (Name := ℕ) (U := UU) (Lvl := ℕ) (Val := Elt F) (τ := τ) osem c ∗ unscopedSems0 c ∗ G xs ws c)
      ⊢ |={Set.univ}=> iprop((bigSep Finset.univ fun k : CellK => iprop(∃ κ : ℕ, cellInv ER (ringRd xs ws) κ (cell c k)))
          ∗ (bigSep Finset.univ fun k : CellK => at₀ (F := F) c k 0) ∗ (bigSep Finset.univ fun k : CellK => reached ER (cell c k) 0) ∗ mine (F := F) c) := by
  unfold G
  iintro ⟨Hos, Hus, Hst, Hat, Hr, Htok⟩
  ihave Hv := (Entails.of_eq (sems_eq (F := F) c).symm) $$ [Hos Hus]
  · isplitl [Hus] <;> iassumption
  imod (show iprop((bigSep Finset.univ fun k : CellK => semVal (cell c k) 0) ∗ bigSep Finset.univ fun k : CellK => roundState ER (ringRd xs ws) (cell c k) 0)
      ⊢ (|={Set.univ}=> bigSep Finset.univ fun k => iprop(∃ κ : ℕ, cellInv ER (ringRd xs ws) κ (cell c k)) : sProp 𝕄) from by
        rw [← bigSep_sep']
        exact (bigSep_mono fun k _ => (Rounds.body_intro ER (ringRd xs ws) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

theorem with_marks (K : Dev nD × CellK → ℕ) (Φ Ψ : Dev nD → sProp 𝕄) (h : ∀ c, iprop(marks xs ws K ∗ Φ c) ⊢ Ψ c) :
    iprop(marks xs ws K ∗ bigSep Finset.univ Φ) ⊢ bigSep Finset.univ Ψ :=
  (sep_mono_left (BI.bigSep_of_persistent Finset.univ (marks xs ws K))).trans (by rw [← bigSep_sep']; exact bigSep_mono fun c _ => h c)

theorem regroup :
    (bigSep Finset.univ fun c : Dev nD => iprop((bigSep Finset.univ fun k : CellK => iprop(∃ κ : ℕ, cellInv ER (ringRd xs ws) κ (cell c k)))
          ∗ (bigSep Finset.univ fun k : CellK => at₀ (F := F) c k 0) ∗ (bigSep Finset.univ fun k : CellK => reached ER (cell c k) 0) ∗ mine (F := F) c) : sProp 𝕄)
      ⊢ bigSep Finset.univ (G' xs ws) := by
  rw [bigSep_sep', bigSep_sep', bigSep_sep', ← bigSep_univ_prod (fun ck : Dev nD × CellK => iprop(∃ κ : ℕ, cellInv ER (ringRd xs ws) κ (cell ck.1 ck.2))),
    ← bigSep_univ_prod (fun ck : Dev nD × CellK => (reached ER (cell ck.1 ck.2) 0 : sProp 𝕄)), around]
  iintro ⟨HI, Hat, #HR, Htok⟩
  ihave HK := (BI.bigSep_exists_pi Finset.univ (fun (ck : Dev nD × CellK) (κ : ℕ) => (cellInv ER (ringRd xs ws) κ (cell ck.1 ck.2) : sProp 𝕄))) $$ HI
  icases HK with ⟨%K, #HI⟩
  iapply (with_marks xs ws K (fun c => iprop((bigSep Finset.univ fun k : CellK => at₀ (F := F) c k 0) ∗ pays (F := F) c)) (G' xs ws) fun c => by
    unfold G'
    iintro H
    iexists K
    iexact H)
  isplitr
  · unfold marks; isplitl; · iexact HI
    iexact HR
  rw [bigSep_sep']
  isplitl [Hat]; · iexact Hat
  iexact Htok

/-- The step that sets the invariants up, on all devices at once. -/
theorem glob : (bigSep Finset.univ fun c => iprop(Pipeline.ownSems0 (Ix := ℕ) (Name := ℕ) (U := UU) (Lvl := ℕ) (Val := Elt F) (τ := τ) osem c ∗ unscopedSems0 c ∗ G xs ws c) : sProp 𝕄)
    ⊢ |={Set.univ}=> bigSep Finset.univ (G' xs ws) :=
  ((bigSep_mono fun c _ => core_alloc xs ws c).trans (bigSep_fupd _ _)).trans (BI.fupd_mono (regroup xs ws))

/-! ## What a device starts from -/

def start (c : Dev nD) : sProp 𝕄 := iprop((∃ K, recs xs ws K) ∗ deal (F := F) c)

theorem base_intro (c : Dev nD) (f : Bool) (t : Fin 4) :
    iprop((at₀ (F := F) c (kSnd f t) 0 ∗ (at₀ (F := F) c (kRcv f 0 t) 0 ∗ at₀ (F := F) c (kRcv f 1 t) 0) ∗ (at₀ (F := F) c (kCrd f 0 t) 0 ∗ at₀ (F := F) c (kCrd f 1 t) 0))
        ∗ (credR (F := F) c f t 0 ∗ credC (F := F) c f t 0) ∗ hand (F := F) c c c f t)
      ⊢ base (F := F) c f t := by
  unfold base hand
  iintro ⟨⟨HS, HR, HC⟩, ⟨C1, C2⟩, T1, T2, T3⟩
  isplitl [C1]; · iexact C1
  isplitl [C2]; · iexact C2
  isplitl [T1]; · iexact T1
  isplitl [T2]; · iexact T2
  isplitl [T3]; · iexact T3
  isplitl [HR]; · iapply (Entails.of_eq (P := iprop(at₀ (F := F) c (kRcv f 0 t) 0 ∗ at₀ (F := F) c (kRcv f 1 t) 0)) (Q := posR (F := F) c f t 0) rfl) $$ HR
  isplitl [HC]; · iapply (Entails.of_eq (P := iprop(at₀ (F := F) c (kCrd f 0 t) 0 ∗ at₀ (F := F) c (kCrd f 1 t) 0)) (Q := posC (F := F) c f t 0) rfl) $$ HC
  iexact HS

theorem deal_intro (c : Dev nD) :
    iprop((bigSep Finset.univ fun k : CellK => at₀ (F := F) c k 0) ∗ pays (F := F) c ∗ Pipeline.launchCred oweAll c) ⊢ deal (F := F) c := by
  have h (f : Bool) : iprop((bigSep Finset.univ fun t : Fin 4 => iprop(at₀ (F := F) c (kSnd f t) 0
        ∗ (at₀ (F := F) c (kRcv f 0 t) 0 ∗ at₀ (F := F) c (kRcv f 1 t) 0) ∗ (at₀ (F := F) c (kCrd f 0 t) 0 ∗ at₀ (F := F) c (kCrd f 1 t) 0)))
        ∗ (bigSep Finset.univ fun t : Fin 4 => iprop(credR (F := F) c f t 0 ∗ credC (F := F) c f t 0))
        ∗ bigSep Finset.univ fun t : Fin 4 => hand (F := F) c c c f t)
      ⊢ bigSep Finset.univ fun t : Fin 4 => base (F := F) c f t := by
    rw [← bigSep_sep', ← bigSep_sep']
    exact bigSep_mono fun t _ => base_intro c f t
  rw [by_kind, bigSep_bool]
  unfold pays deal
  iintro ⟨⟨HB, P1, P2⟩, ⟨T1, T2, H1, H2⟩, HC⟩
  ihave HC := (credits (F := F) c) $$ HC
  icases HC with ⟨CB, C1, C2⟩
  isplitl [HB]; · iexact HB
  isplitl [T1]; · iexact T1
  isplitl [T2]; · iexact T2
  isplitl [CB]; · iexact CB
  isplitl [P1 H1 C1]
  · iapply (h false)
    isplitl [P1]; · iexact P1
    isplitl [C1]; · iexact C1
    iexact H1
  iapply (h true)
  isplitl [P2]; · iexact P2
  isplitl [C2]; · iexact C2
  iexact H2

theorem start_of (c : Dev nD) : iprop(levAts L lv ∗ Pipeline.launchCred oweAll c ∗ G' xs ws c) ⊢ start xs ws c := by
  unfold G' start marks recs
  iintro ⟨Hlev, Hcr, ⟨%K, ⟨HI, HR⟩, Hat, Hp⟩⟩
  isplitl [Hlev HI HR]
  · iexists K
    isplitl [HI]; · iexact HI
    isplitl [HR]; · iexact HR
    iexact Hlev
  iapply (deal_intro (F := F) c)
  isplitl [Hat]; · iexact Hat
  isplitl [Hp]; · iexact Hp
  iexact Hcr

end Cert.Ring

end
-- ==== Proof.Out.lean ====
/-
A device's block of the result, tile by tile.
-/
module

public import proofs.«01_k».proof.Proof.Closing
public import Idealize.ShloMosaic.Lib.ValueIdxCore
public import Idealize.ShloMosaic.Lib.Writes

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

variable (xs : Dev nD → (cc0_stg0_0 : Ref sig .tc).ty.Contents (Elt F))
variable (ws : Dev nD → (cc0_stg1_0 : Ref sig .tc).ty.Contents (Elt F))

/-- The column tile of a place of the result's block, and the place in the tile. -/
def tileNo (i : S64x2048.Idx) : Fin 4 := ⟨(i 1).val / 512, by have h : (i 1).val < 2048 := (i 1).isLt; omega⟩
def inTile (i : S64x2048.Idx) : S64x512.Idx := ix2 (i 0) ⟨(i 1).val % 512, Nat.mod_lt _ (by decide)⟩

/-- Device `c`'s block of the result. -/
def outAt (c : Dev nD) : (cc0_stg2_0 : Ref sig .tc).ty.Contents (Elt F) := fun i => resTile xs ws c (tileNo i) (inTile i)

/-- The four stores, the last one first. -/
def pieces (c : Dev nD) : List (View.Piece (Elt F) S64x2048 .f32) :=
  [3, 2, 1, 0].map fun t : Fin 4 => ⟨outRect t, resTile xs ws c t⟩

theorem piece_agrees (c : Dev nD) (t : Fin 4) (x : (outRect t).shape.Idx) :
    resTile xs ws c t x = resTile xs ws c (tileNo ((outRect t).emb x)) (inTile ((outRect t).emb x)) := by
  have h0 : (((outRect t).emb x) 0).val = 0 + 1 * (x 0).val := rfl
  have h1 : (((outRect t).emb x) 1).val = 512 * t.val + 1 * (x 1).val := rfl
  have hx : (x 1).val < 512 := (x 1).isLt
  have ht : tileNo ((outRect t).emb x) = t := Fin.ext (by
    show (((outRect t).emb x) 1).val / 512 = t.val
    omega)
  have hi : inTile ((outRect t).emb x) = x := by
    refine (congrArg₂ ix2 (Fin.ext ?_) (Fin.ext ?_)).trans (eq_ix2 x).symm
    · show (((outRect t).emb x) 0).val = (x 0).val
      omega
    · show (((outRect t).emb x) 1).val % 512 = (x 1).val
      omega
  rw [ht, hi]

theorem mem_outRect (t : Fin 4) (i : S64x2048.Idx) (h : (i 1).val / 512 = t.val) : i ∈ (outRect t).set := by
  rw [Rect.mem_set_unit]
  intro a
  have h2 : (i 0).val < 64 := (i 0).isLt
  fin_cases a
  · show 0 ≤ (i 0).val ∧ (i 0).val < 0 + 64; omega
  · show 512 * t.val ≤ (i 1).val ∧ (i 1).val < 512 * t.val + 512; omega

/-- What the four stores leave in any buffer of this shape. -/
theorem read_pieces (v : View sig .tc .vmem S64x2048 .f32) (g : v.ty.Contents (Elt F)) (c : Dev nD) :
    v.read (Elt F) (v.writes (Elt F) g (pieces xs ws c)) = fun i => resTile xs ws c (tileNo i) (inTile i) := by
  funext i
  refine View.read_writes_apply_of_pieces v g (fun i => resTile xs ws c (tileNo i) (inTile i)) (pieces xs ws c) (fun p hp x => ?_) i ?_
  · obtain ⟨t, -, rfl⟩ := List.mem_map.mp hp
    exact piece_agrees xs ws c t x
  · exact ⟨⟨outRect (tileNo i), resTile xs ws c (tileNo i)⟩,
      List.mem_map.mpr ⟨tileNo i, by generalize tileNo i = t; revert t; decide, rfl⟩, mem_outRect (tileNo i) i rfl⟩

/-- After the four stores the buffer holds the block, whatever it held before. -/
theorem wroteAll_eq (c : Dev nD) (g : (cc0_stg2_0 : Ref sig .tc).ty.Contents (Elt F)) : wroteAll xs ws c g = outAt xs ws c := by
  have hw : wroteAll xs ws c g = (View.whole cc0_stg2_0).writes (Elt F) g (pieces xs ws c) := by
    unfold wroteAll wrote pieces
    generalize resTile xs ws c = R
    rfl
  have h := read_pieces xs ws (View.whole cc0_stg2_0) g c
  rw [View.read_whole] at h
  rw [hw, h]
  rfl

end Cert.Ring

end
-- ==== Proof.Body.lean ====
/-
The printed kernel body is the program of the flows.
-/
module

public import proofs.«01_k».proof.Proof.Flow

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxRecDepth 1000000 in
set_option maxHeartbeats 4000000 in
set_option backward.proofsInPublic true in
/-- The printed body, on the buffers the launch gives it, is the flows' program, step for step. -/
theorem body_eq : cc0_body (F := F) xM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 = program := rfl

end Cert.Ring

end
-- ==== Proof.Launch.lean ====
/-
The launch on the mesh: every device runs its program to the end.
-/
module

public import proofs.«01_k».proof.Proof.Ghost
public import proofs.«01_k».proof.Proof.Out
public import proofs.«01_k».proof.Proof.Body
public import proofs.«01_k».proof.Proof.Gen.KernelIdeal.Points
public import Idealize.ShloMosaic.Lib.Pipeline.Launch
public import Idealize.ShloMosaic.Lib.Pipeline.Quiescent
public import Idealize.ShloMosaic.Lib.Pipeline.Kit

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- The machine before the run. -/
def s₀ : MemSt nD τ sig (Elt F) := ⟨m, fun _ => 0, ρ⟩

/-- Device `c`'s blocks of the two arguments, as staged. -/
def xAt (c : Dev nD) : (cc0_stg0_0 : Ref sig .tc).ty.Contents (Elt F) :=
  (win0_0.blk (0 : Fin 1)).view.read (Elt F) ((s₀ m ρ).mem ((c : Thread nD τ).loc main_arg0))
def wAt (c : Dev nD) : (cc0_stg1_0 : Ref sig .tc).ty.Contents (Elt F) :=
  (win0_1.blk (0 : Fin 1)).view.read (Elt F) ((s₀ m ρ).mem ((c : Thread nD τ).loc main_arg1))

/-! ## The pipeline's proof data -/

def Φ₀ (c : Dev nD) : sProp 𝕄 := iprop(start (xAt m ρ) (wAt m ρ) c ∗ scratch (F := F) c)
def Φ₁ (c : Dev nD) : sProp 𝕄 := iprop(scratch (F := F) c ∗ zeroes (F := F) c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xAt m ρ c
    | ⟨1, _⟩ => wAt m ρ c
    | ⟨2, _⟩ => outAt (xAt m ρ) (wAt m ρ) c
  Φ t := match t with
    | ⟨0, _⟩ => Φ₀ m ρ c
    | ⟨_ + 1, _⟩ => Φ₁ (F := F) c
  q _ := fullShare
  owed t := match t with
    | ⟨0, _⟩ => oweAll c
    | ⟨_ + 1, _⟩ => 0

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt 0 t0_0.succ ∗ stg c cc0_stg0_0 (xAt m ρ c) ∗ stg c cc0_stg1_0 (wAt m ρ c)
    ∗ stg c cc0_stg2_0 (outAt (xAt m ρ) (wAt m ρ) c))

theorem owes_start (c : Dev nD) : ((dats m ρ 0 c).owesAt 0 t0_0.castSucc : sProp 𝕄) ⊢ owesE c (oweAll c) := by
  unfold Pipeline.Dat.owesAt Pipeline.owesWithin owesE
  iintro ⟨%W, -, HO⟩
  iexists W
  iexact HO
theorem owes_end (c : Dev nD) : (owesE (F := F) c 0 : sProp 𝕄) ⊢ (dats m ρ 0 c).owesAt 0 t0_0.succ := by
  unfold Pipeline.Dat.owesAt Pipeline.owesWithin owesE
  iintro ⟨%W, HO⟩
  iexists W
  isplitr; · ipureintro; exact fun _ _ => Or.inl trivial
  iexact HO

theorem sound_body (c : Dev nD) : bodyPre m ρ c ⊢ WP c program (fun _ => bodyPost m ρ c) := by
  unfold bodyPre Φ₀ start
  iintro ⟨⟨⟨⟨%K, #HR⟩, Hd⟩, Hs⟩, Ho, ⟨%d0, %g0, %hg0, Hx⟩, ⟨%d1, %g1, %hg1, Hw⟩, ⟨%d2, %g2, %hg2, Hout⟩⟩
  have hx : g0 = xAt m ρ c := by rw [hg0]; unfold Pipeline.Dat.before; rw [if_pos (fetch0_0 t0_0)]; rfl
  have hw : g1 = wAt m ρ c := by rw [hg1]; unfold Pipeline.Dat.before; rw [if_pos (fetch0_1 t0_0)]; rfl
  subst hx hw
  ihave Ho := (owes_start m ρ c) $$ Ho
  iapply (wp_program (xAt m ρ) (wAt m ρ) K c g2 (fun _ => bodyPost m ρ c)) $$ [Hd Hs Hx Hw Hout Ho]
  · isplitr; · iexact HR
    isplitl [Hd]; · iexact Hd
    isplitl [Hs]; · iexact Hs
    isplitl [Hx Hw]
    · unfold inputs
      isplitl [Hx]; · iexact Hx
      iexact Hw
    isplitl [Hout]; · unfold outPts; iexact Hout
    iexact Ho
  rw [wroteAll_eq]
  unfold inputs outPts bodyPost Φ₁
  iintro ⟨⟨Hx, Hw⟩, Hout, Hs, Hz, Ho⟩
  isplitl [Hs Hz]
  · isplitl [Hs]; · iexact Hs
    iexact Hz
  isplitl [Ho]; · iapply (owes_end m ρ c) $$ Ho
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 1000000 in
set_option maxHeartbeats 4000000 in
/-- What the pipeline asks of the body. -/
theorem body_obligation (c : Dev nD) : Pipeline.BodyObligation (dats (F := F) m ρ 0 c) (defs₀ (F := F)) 𝒱₀ 0 Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole]
  show bodyPre m ρ c ⊢ WP c (cc0_body (F := F) xM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9) (fun _ => bodyPost m ρ c)
  rw [body_eq]
  exact sound_body m ρ c

/-! ## The launch's side conditions -/

theorem ownSemFacts : Pipeline.OwnSemFacts cfg0.spec osem := by decide

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred oweAll c ∗ prngReg c (ρ c) ∗ G' (xAt m ρ) (wAt m ρ) c)
      ⊢ |={Set.univ}=> iprop(start (xAt m ρ) (wAt m ρ) c ∗ emp) := by
  iintro ⟨-, Hlev, Hcr, -, HG⟩
  imodintro
  isplitl
  · iapply (start_of (xAt m ρ) (wAt m ρ) c)
    isplitl [Hlev]; · iexact Hlev
    isplitl [Hcr]; · iexact Hcr
    iexact HG
  · iempintro

theorem phi0_intro (c : Dev nD) :
    iprop(start (xAt m ρ) (wAt m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  unfold scratch recvWhole sendWhole
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz⟩
  ihave Hz := (zeroes_sems (F := F) c) $$ Hz
  ihave Hz := (Entails.of_eq (sems_eq (F := F) c)) $$ Hz
  icases Hz with ⟨Hu, Ho⟩
  isplitl [Hu]; · iexact Hu
  isplitl [Ho]; · iexact Ho
  unfold scratch recvWhole sendWhole
  iexact Hr

theorem above_all (c : Dev nD) : Above 0 (oweAll c) :=
  ((above_core c (by omega)).add (Above.tally (k := kBar) (by decide) (show 0 < 1 by omega))).add
    (Above.tally (k := kBar) (by decide) (show 0 < 1 by omega))

theorem waits (c : Dev nD) : (levAts L lv : sProp 𝕄) ⊢ Pipeline.cellsWaits cfgs (dats m ρ) 0 0 c :=
  Pipeline.cellsWaits_intro cfgs (dats m ρ) 0 0 c fun w s t =>
    mayWait (b := 0) (by decide) (by fin_cases w <;> fin_cases s <;> exact Nat.le_refl 0) (by
      rcases t with ⟨_ | _, ht⟩
      · exact above_all c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
set_option maxHeartbeats 4000000 in
/-- On the mesh of 32 devices, over any float values and from any memory with zero counters: every weakly fair execution
    ends, each device's arrays hold the computed contents, and every counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := oweAll) (howed₀ := fun _ => rfl) (howedN := fun _ => rfl)
    (L := L) (lv := lv) (hL := L_of_ne) (hwaits := waits m ρ)
    (G := G (xAt m ρ) (wAt m ρ)) (G' := G' (xAt m ρ) (wAt m ρ)) (u₀ := u₀)
    (hu₀ := by
      unfold u₀
      iintro Hu
      ihave H := (ownU_pair _ _) $$ Hu
      icases H with ⟨HP, HX⟩
      imod (fund_ring (xAt m ρ) (wAt m ρ)) $$ HX with HG
      imodintro
      isplitl [HP] <;> iassumption)
    (hglob := glob (xAt m ρ) (wAt m ρ))
    (hA := fun _ _ => rfl) (hpf := fun _ k => k.elim0)
    (X := start (xAt m ρ) (wAt m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

/-- The argument arrays end as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Ring

end
-- ==== Proof.Frames.lean ====
/-
  The three frames: each program ends, its argument arrays unchanged and every counter zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch

@[expose] public section

noncomputable section

namespace Cert.Ring

open Idealize.ShloMosaic Idealize.ShloMosaic.TcCoe Idealize.SL.Sem

/-- The kernel over the extended reals leaves its arguments and the counters as they were. -/
theorem frame_kernelIdeal : Cert.quiescent_KernelIdeal (hKernelIdeal := Cert.KernelIdeal.Gen.facts) := fun m ρ _ =>
  (θ_run (Cert.KernelIdeal.defs (F := Ideal)) _ _).mono
    (fun _ h => ⟨fun c => ⟨(h.1 c (0 : Fin 3)).trans (finalA_x m ρ c), (h.1 c (1 : Fin 3)).trans (finalA_w m ρ c)⟩, h.2⟩)
    (run_main (F := Ideal) m ρ)

/-- The two kernel programs are the same text, and so are the tables of their bodies; -/
theorem bodies_eq : (Cert.Kernel.defs₀ (F := Bits) : Defs Cert.KernelIdeal.nD Cert.KernelIdeal.τ Cert.KernelIdeal.sig (Elt Bits)
    Cert.KernelIdeal.Λ₀) = Cert.KernelIdeal.defs₀ (F := Bits) := by
  refine congrArg Defs.onTc (funext fun l => ?_)
  match l with
  | 0 =>
    funext x
    obtain ⟨t, s⟩ := x
    rfl
/-- with the pipeline's own beside them. -/
theorem tables_eq : Cert.Kernel.defs (F := Bits) = Cert.KernelIdeal.defs (F := Bits) :=
  congrArg (Pipeline.defs (Cert.KernelIdeal.pcfgs (F := Bits))) bodies_eq

/-- So the kernel over the machine's floats leaves its arguments and the counters as they were. -/
theorem frame_kernel : Cert.quiescent_Kernel (hKernel := Cert.Kernel.Gen.facts) := fun m ρ _ => by
  rw [tables_eq]
  exact (θ_run (Cert.KernelIdeal.defs (F := Bits)) _ _).mono
    (fun r (h : QC (F := Bits) m ρ r ∧ r.2.sem = fun _ => 0) =>
      ⟨fun c => ⟨(h.1 c (0 : Fin 3)).trans (finalA_x m ρ c), (h.1 c (1 : Fin 3)).trans (finalA_w m ρ c)⟩, h.2⟩)
    (run_main (F := Bits) m ρ)

/-- The reference's machine has no counter at all. -/
theorem no_counter : IsEmpty (SemLoc Cert.ReferenceIdeal.sig) :=
  ⟨fun sm => by rcases sm with sm | sm <;> exact (Nat.not_lt_zero _ sm.isLt).elim⟩

/-- The reference leaves its arguments as they were. -/
theorem frame_reference : Cert.quiescent_ReferenceIdeal (hReferenceIdeal := Cert.ReferenceIdeal.Gen.facts) := fun m ρ _ =>
  (θ_run (Cert.ReferenceIdeal.defs (F := Ideal)) _ _).mono
    (fun _ h => ⟨fun c => (h c).2, funext fun g => no_counter.elim g.2⟩)
    (Cert.ReferenceIdeal.Value.run (F := Ideal) m ρ)

end Cert.Ring

end
-- ==== Proof.Order.lean ====
/-
The ring's order: where each device stands, and which rows it multiplies at each step.

The ring goes through the devices in a fixed order. A device's place in it goes down by one at its left neighbour and up by one
at its right one, so the walk to the left from any device meets every device once in 32 steps, and 32 steps lead back.
-/
module

public import proofs.«01_k».proof.Proof.Cells

@[expose] public section

noncomputable section

namespace Cert.Ring

open Cert.KernelIdeal Cert.KernelIdeal.Gen
open Idealize.ShloMosaic Idealize.ShloMosaic.TcCoe

/-- A device's place in the ring. -/
def pos (c : Dev nD) : Fin 32 :=
  let z := c.val / 8
  let k := c.val % 8
  let y := k / 2
  let p := z * 4 + (if z % 2 = 0 then y else 3 - y)
  Fin.ofNat 32 (if (k + 1) / 2 % 2 = 0 then p else 31 - p)

theorem pos_inj : Function.Injective pos := by
  have h : ∀ a b : Dev nD, pos a = pos b → a = b := by decide +kernel
  exact fun a b => h a b

theorem pos_left : ∀ c : Dev nD, pos (left c) = pos c - 1 := by decide +kernel
theorem pos_right : ∀ c : Dev nD, pos (right c) = pos c + 1 := by decide +kernel

/-- A device reads, for the chunk that lies as far from its own as the device `e` lies from it, the rows of `e`. -/
theorem rows_at : ∀ c e : Dev nD, ∀ a, k0_off1 c (BitVec.ofNat 32 (4294967264 + (pos e - pos c).val)) a = (![64 * e.val, 0] : Fin 2 → ℕ) a := by
  decide +kernel

/-! ## The walk to the left -/

theorem pos_walk (c : Dev nD) (k : ℕ) : pos (left^[k] c) = pos c - Fin.ofNat 32 k := by
  induction k with
  | zero => apply Fin.ext; simp only [Function.iterate_zero_apply, Fin.val_sub, Fin.ofNat]; omega
  | succ k ih =>
    rw [Function.iterate_succ_apply', pos_left, ih]
    apply Fin.ext
    simp only [Fin.val_sub, Fin.ofNat, Fin.val_one]
    omega

theorem pos_walk_right (c : Dev nD) (k : ℕ) : pos (right^[k] c) = pos c + Fin.ofNat 32 k := by
  induction k with
  | zero => apply Fin.ext; simp only [Function.iterate_zero_apply, Fin.val_add, Fin.ofNat]; omega
  | succ k ih =>
    rw [Function.iterate_succ_apply', pos_right, ih]
    apply Fin.ext
    simp only [Fin.val_add, Fin.ofNat, Fin.val_one]
    omega

/-- `k` steps to the right are `32 - k` to the left. -/
theorem walk_around (c : Dev nD) (k : ℕ) (hk : k ≤ 32) : right^[k] c = left^[32 - k] c := by
  apply pos_inj
  rw [pos_walk, pos_walk_right]
  apply Fin.ext
  simp only [Fin.val_add, Fin.val_sub, Fin.ofNat]
  omega

/-- The walk to the left meets every device once. -/
theorem walk_all (c : Dev nD) : Function.Bijective fun k : Fin 32 => left^[k.val] c := by
  refine (Fintype.bijective_iff_injective_and_card _).2 ⟨fun a b h => ?_, rfl⟩
  have h' := congrArg (fun d => (pos d).val) h
  simp only [pos_walk, Fin.val_sub, Fin.ofNat] at h'
  exact Fin.ext (by omega)

/-- A sum over the devices, taken along the ring: 17 of them going left from a device, itself the first, the other 15
    going right. -/
theorem sum_ring {M : Type} [AddCommMonoid M] (c : Dev nD) (g : Dev nD → M) :
    (∑ k ∈ Finset.range 17, g (left^[k] c)) + (∑ k ∈ Finset.range 15, g (right^[k + 1] c)) = ∑ d, g d := by
  rw [← (walk_all c).sum_comp g, Finset.sum_fin_eq_sum_range, show 32 = 17 + 15 from rfl, Finset.sum_range_add]
  refine congrArg₂ (· + ·) (Finset.sum_congr rfl fun k hk => ?_) ?_
  · rw [dif_pos (by have := Finset.mem_range.1 hk; omega)]
  · refine Finset.sum_nbij' (fun k => 14 - k) (fun k => 14 - k) ?_ ?_ ?_ ?_ ?_
    · intro k hk; simp only [Finset.mem_range] at *; omega
    · intro k hk; simp only [Finset.mem_range] at *; omega
    · intro k hk; simp only [Finset.mem_range] at *; omega
    · intro k hk; simp only [Finset.mem_range] at *; omega
    · intro k hk
      simp only [Finset.mem_range] at hk
      rw [dif_pos (by omega), walk_around c _ (by omega)]
      refine congrArg (fun n => g (left^[n] c)) ?_
      show 32 - (k + 1) = 17 + (14 - k)
      omega

/-! ## The chunks along the flows -/

/-- The device `k` steps to the left multiplies, for the flow to the right, the rows of the device where the flow ends. -/
theorem chunk_right (c : Dev nD) (k : ℕ) (hk : k ≤ 16) : chunk false (16 - k) = pos c - pos (left^[k] c) := by
  rw [pos_walk]
  apply Fin.ext
  simp only [chunk, Fin.ofNat, Fin.val_sub]
  omega

/-- And so does the one `k` steps to the right for the flow to the left. -/
theorem chunk_left (c : Dev nD) (k : ℕ) (hk : 1 ≤ k ∧ k ≤ 15) : chunk true (15 - k) = pos c - pos (right^[k] c) := by
  rw [pos_walk_right]
  apply Fin.ext
  simp only [chunk, Fin.ofNat, Fin.val_sub, Fin.val_add]
  omega

end Cert.Ring

end
-- ==== Proof.Sums.lean ====
/-
What the flows add up to, over the extended reals.

A partial sum of a flow is the sum, over the devices it has been through, of their products of 64 rows with their own block
of the right factor. At the end the two flows and the device's own product make the sum over all the devices.
-/
module

public import proofs.«01_k».proof.Proof.Order
public import proofs.«01_k».proof.Proof.Out
public import Idealize.ShloMosaic.Lib.StackMember
public import Idealize.ShloMosaic.Lib.KernelVsHost

@[expose] public section

noncomputable section

namespace Cert.Ring

open Cert.KernelIdeal Cert.KernelIdeal.Gen
open Idealize.ShloMosaic
open Idealize.ShloMosaic.TcCoe Idealize.ShloMosaic.ValueIdx

variable (xs : Dev nD → FVec Ideal S2048x64 .bf16)
variable (ws : Dev nD → FVec Ideal S64x2048 .bf16)

/-- The rows of device `e` in the left factor. -/
def rowOf (e : Dev nD) (i : Fin 64) : Fin 2048 := ⟨64 * e.val + i.val, by have h : e.val < 32 := e.isLt; omega⟩

/-- Device `d`'s share of the result's entry in row `i` of device `e` and column `j`. -/
def share (e d : Dev nD) (i : Fin 64) (j : Fin 2048) : EReal :=
  ∑ k : Fin 64, (xs d (ix2 (rowOf e i) k) : EReal) * (ws d (ix2 k j) : EReal)

theorem prod_apply (x : FVec Ideal S64x64 .bf16) (w : FVec Ideal S64x2048 .bf16) (i : Fin 64) (j : Fin 2048) :
    (prod (F := Ideal) x w (ix2 i j) : EReal) = ∑ k : Fin 64, (x (ix2 i k) : EReal) * (w (ix2 k j) : EReal) := by
  unfold prod
  rw [shapeCast_self, shapeCast_self, matmul_zero_eq_dotGeneral]
  exact StackMember.dotGeneral_plain_apply none x w i j

/-- Reading 64 rows of the left factor's block. -/
theorem rows_read (o : Fin 2 → ℕ) (ho : ∀ a, o a + S64x64.size a ≤ S2048x64.size a) (x : FVec Ideal S2048x64 .bf16) (e : Dev nD)
    (h0 : o 0 = 64 * e.val) (h1 : o 1 = 0) (i k : Fin 64) :
    xM.view.readAt (Elt Ideal) (Rect.unit (s := S2048x64) o S64x64.size ho).toLoadRect x (ix2 i k) = x (ix2 (rowOf e i) k) := by
  refine congrArg x (funext fun a => Fin.ext ?_)
  match a with
  | ⟨0, _⟩ => show o 0 + 1 * i.val = 64 * e.val + i.val; omega
  | ⟨1, _⟩ => show o 1 + 1 * k.val = k.val; omega

/-- Reading the right factor's block. -/
theorem all_read (w : FVec Ideal S64x2048 .bf16) (k : Fin 64) (j : Fin 2048) :
    wM.view.readAt (Elt Ideal) (Rect.unit (s := S64x2048) ![0, 0] S64x2048.size Facts₀.inb_S64x2048_S64x2048_0_0).toLoadRect w (ix2 k j) = w (ix2 k j) := by
  refine congrArg w (funext fun a => Fin.ext ?_)
  match a with
  | ⟨0, _⟩ => show 0 + 1 * k.val = k.val; omega
  | ⟨1, _⟩ => show 0 + 1 * j.val = j.val; omega

/-- The product a device makes for the rows of device `e`. -/
theorem prodAt_apply (c e : Dev nD) (i : Fin 64) (j : Fin 2048) :
    (prodAt (F := Ideal) xs ws (pos e - pos c) c (ix2 i j) : EReal) = share xs ws e c i j := by
  unfold prodAt
  generalize hr : pos e - pos c = r
  have h0 : k0_off1 c (BitVec.ofNat 32 (4294967264 + r.val)) 0 = 64 * e.val := hr ▸ rows_at c e 0
  have h1 : k0_off1 c (BitVec.ofNat 32 (4294967264 + r.val)) 1 = 0 := hr ▸ rows_at c e 1
  refine (prod_apply _ _ i j).trans (Finset.sum_congr rfl fun k _ => congrArg₂ (fun a b : EReal => a * b) ?_ ?_)
  · exact rows_read _ (k0_off1_inb c r) (xs c) e h0 h1 i k
  · exact all_read (ws c) k j

/-! ## Along the flows -/

/-- The place of a tile's entry in the 2048 columns. -/
def colOf (t : Fin 4) (l : Fin 512) : Fin 2048 := ⟨512 * t.val + l.val, by omega⟩

theorem tileOf_apply (t : Fin 4) (p : FVec Ideal S64x2048 .f32) (i : Fin 64) (l : Fin 512) :
    tileOf (F := Ideal) t p (ix2 i l) = p (ix2 i (colOf t l)) := by
  refine congrArg p (funext fun a => Fin.ext ?_)
  match a with
  | ⟨0, _⟩ => show 0 + i.val = i.val; omega
  | ⟨1, _⟩ => rfl

/-- What is sent as transfer `s` is the sum of the products of the `s + 1` devices behind. -/
theorem sentVal_apply (f : Bool) (s : ℕ) (c : Dev nD) (t : Fin 4) (i : Fin 64) (l : Fin 512) :
    (sentVal (F := Ideal) xs ws f s c t (ix2 i l) : EReal)
      = ∑ k ∈ Finset.range (s + 1), (prodAt (F := Ideal) xs ws (chunk f (s - k)) ((src f)^[k] c) (ix2 i (colOf t l)) : EReal) := by
  induction s generalizing c with
  | zero =>
    rw [Finset.sum_range_one]
    exact tileOf_apply t (prodAt (F := Ideal) xs ws (chunk f 0) c) i l
  | succ s ih =>
    rw [Finset.sum_range_succ']
    refine congrArg₂ (fun a b : EReal => a + b) ((ih (src f c)).trans (Finset.sum_congr rfl fun k _ => ?_))
      (tileOf_apply t (prodAt (F := Ideal) xs ws (chunk f (s + 1)) c) i l)
    rw [Nat.add_sub_add_right, Function.iterate_succ_apply]

/-- What the activation is applied to: the sum of all the devices' shares. -/
theorem total_apply (c : Dev nD) (t : Fin 4) (i : Fin 64) (l : Fin 512) :
    ((sentVal (F := Ideal) xs ws false 15 (src false c) t (ix2 i l) : EReal)
        + (tileOf (F := Ideal) t (prodAt (F := Ideal) xs ws (chunk false 16) c) (ix2 i l) : EReal))
      + (sentVal (F := Ideal) xs ws true 14 (src true c) t (ix2 i l) : EReal)
      = ∑ d, share xs ws c d i (colOf t l) := by
  rw [sentVal_apply, sentVal_apply, tileOf_apply, ← sum_ring c, Finset.sum_range_succ' _ 16]
  refine congrArg₂ (fun a b : EReal => a + b) (congrArg₂ (fun a b : EReal => a + b) (Finset.sum_congr rfl fun k hk => ?_) ?_)
    (Finset.sum_congr rfl fun k hk => ?_)
  · have hk' := Finset.mem_range.1 hk
    rw [show 15 - k = 16 - (k + 1) by omega]
    show (prodAt (F := Ideal) xs ws (chunk false (16 - (k + 1))) (left^[k + 1] c) (ix2 i (colOf t l)) : EReal) = _
    rw [chunk_right c (k + 1) (by omega)]
    exact prodAt_apply xs ws _ c i _
  · show (prodAt (F := Ideal) xs ws (chunk false (16 - 0)) (left^[0] c) (ix2 i (colOf t l)) : EReal) = _
    rw [chunk_right c 0 (by omega)]
    exact prodAt_apply xs ws _ c i _
  · have hk' := Finset.mem_range.1 hk
    rw [show 14 - k = 15 - (k + 1) by omega]
    show (prodAt (F := Ideal) xs ws (chunk true (15 - (k + 1))) (right^[k + 1] c) (ix2 i (colOf t l)) : EReal) = _
    rw [chunk_left c (k + 1) (by omega)]
    exact prodAt_apply xs ws _ c i _

end Cert.Ring

end
-- ==== Proof.Value.lean ====
/-
The value: each device's result block is its block of the reference's result.

The gelu is applied entry by entry on both sides, so what is left is that the sum of the devices' shares is the product of the
whole arrays: 32 devices with 64 columns each are the 2048 columns.
-/
module

public import proofs.«01_k».proof.Defs
public import proofs.«01_k».proof.Proof.Gen.ReferenceIdeal.Run
public import proofs.«01_k».proof.Proof.Launch
public import proofs.«01_k».proof.Proof.Sums
public import Idealize.ShloMosaic.Lib.Layout

@[expose] public section

noncomputable section

namespace Cert.Ring

open Cert.KernelIdeal Cert.KernelIdeal.Gen
open Idealize.ShloMosaic Idealize.ShloMosaic.TcCoe Idealize.ShloMosaic.ValueIdx

/-! ## The gelu -/

/-- The gelu of one number, with its tanh; the constants are those of both programs. -/
def gelu (y : EReal) : EReal :=
  (Ideal.ofBits .f32 0x3F000000#32 : EReal) * y * ((Ideal.ofBits .f32 0x3F800000#32 : EReal)
    + Ideal.tanh ((Ideal.ofBits .f32 0x3F4C422A#32 : EReal) * (y + (Ideal.ofBits .f32 0x3D372713#32 : EReal) * (y * y * y))))

theorem act_apply (y : FVec Ideal S64x512 .f32) (q : S64x512.Idx) : (act (F := Ideal) y q : EReal) = gelu (y q) := by
  show (Ideal.ofBits .f32 0x3F000000#32 : EReal) * y q * ((Ideal.ofBits .f32 0x3F800000#32 : EReal)
    + Ideal.tanh ((Ideal.ofBits .f32 0x3F4C422A#32 : EReal) * (y q + (Ideal.ofBits .f32 0x3D372713#32 : EReal) * y q * y q * y q))) = gelu (y q)
  unfold gelu
  rw [mul_assoc (_ * _) (y q : EReal) (y q), mul_assoc _ (y q : EReal) (_ * _), ← mul_assoc (y q : EReal) (y q) (y q)]

/-- The reference's result, from the product of the whole arrays. -/
def refGelu (D : FVec Ideal Cert.ReferenceIdeal.S2048x2048 .f32) : FVec Ideal Cert.ReferenceIdeal.S2048x2048 .f32 :=
  fun j => gelu (D j)

/-! ## The product of the whole arrays -/

/-- A column of device `d` among the 2048. -/
def deepOf (d : Fin 32) (k : Fin 64) : Fin 2048 := ⟨64 * d.val + k.val, by omega⟩

/-- 32 devices with 64 columns each are the 2048 columns. -/
theorem sum_deep {M : Type} [AddCommMonoid M] (g : Fin 2048 → M) : ∑ d : Fin 32, ∑ k : Fin 64, g (deepOf d k) = ∑ K, g K := by
  rw [← Finset.sum_product', ← (finProdFinEquiv (m := 32) (n := 64)).sum_comp g]
  refine Finset.sum_congr rfl fun p _ => congrArg g (Fin.ext ?_)
  show 64 * p.1.val + p.2.val = p.2.val + 64 * p.1.val
  omega

variable (X W : FVec Ideal Cert.ReferenceIdeal.S2048x2048 .bf16)

/-- From the devices' blocks, the sum of the shares is the entry of the whole product. -/
theorem shares_eq (e : Dev nD) (i : Fin 64) (j : Fin 2048) :
    (∑ d : Dev nD, share (fun d => Layout.block ⟨2, ![2048, 64]⟩ ⟨2, ![2048, 2048]⟩ 1 32 d X)
        (fun d => Layout.block ⟨2, ![64, 2048]⟩ ⟨2, ![2048, 2048]⟩ 0 32 d W) e d i j : EReal)
      = (Host.dotGeneral (F := Ideal) Cert.ReferenceIdeal.dot_S2048x2048_S2048x2048_S2048x2048_1_0_0_1_n_n none X W (ix2 (rowOf e i) j) : EReal) := by
  refine Eq.trans ?_ (StackMember.dotGeneral_plain_apply none X W (rowOf e i) j).symm
  refine Eq.trans (Finset.sum_congr rfl fun d _ => ?_)
    (sum_deep (M := EReal) fun K => (X (ix2 (rowOf e i) K) : EReal) * (W (ix2 K j) : EReal))
  unfold share
  refine Finset.sum_congr rfl fun k _ => congrArg₂ (fun a b : EReal => a * b) ?_ ?_
  · refine congrArg X (funext fun a => Fin.ext ?_)
    match a with
    | ⟨0, _⟩ => rfl
    | ⟨1, _⟩ => show d.val * 64 + k.val = 64 * d.val + k.val; omega
  · refine congrArg W (funext fun a => Fin.ext ?_)
    match a with
    | ⟨0, _⟩ => show d.val * 64 + k.val = 64 * d.val + k.val; omega
    | ⟨1, _⟩ => rfl

/-! ## A device's block of the result -/

theorem resTile_apply (xs : Dev nD → FVec Ideal S2048x64 .bf16) (ws : Dev nD → FVec Ideal S64x2048 .bf16) (c : Dev nD) (t : Fin 4)
    (i : Fin 64) (l : Fin 512) :
    (resTile (F := Ideal) xs ws c t (ix2 i l) : EReal) = gelu (∑ d, share xs ws c d i (colOf t l)) := by
  unfold resTile
  rw [act_apply]
  exact congrArg gelu (total_apply xs ws c t i l)

theorem outAt_apply (xs : Dev nD → FVec Ideal S2048x64 .bf16) (ws : Dev nD → FVec Ideal S64x2048 .bf16) (c : Dev nD) (i : S64x2048.Idx) :
    (outAt (F := Ideal) xs ws c i : EReal) = gelu (∑ d, share xs ws c d (i 0) (i 1)) := by
  show (resTile (F := Ideal) xs ws c (tileNo i) (ix2 (i 0) ⟨(i 1).val % 512, Nat.mod_lt _ (by decide)⟩) : EReal) = _
  refine (resTile_apply xs ws c _ _ _).trans ?_
  have h : colOf (tileNo i) ⟨(i 1).val % 512, Nat.mod_lt _ (by decide)⟩ = i 1 := Fin.ext (by
    show 512 * ((i 1).val / 512) + (i 1).val % 512 = (i 1).val
    omega)
  rw [h]

/-- A device's block of the result is its block of the gelu of the whole product. -/
theorem outAt_eq (c : Dev nD) :
    outAt (F := Ideal) (fun d => Layout.block ⟨2, ![2048, 64]⟩ ⟨2, ![2048, 2048]⟩ 1 32 d X)
        (fun d => Layout.block ⟨2, ![64, 2048]⟩ ⟨2, ![2048, 2048]⟩ 0 32 d W) c
      = Layout.block ⟨2, ![64, 2048]⟩ ⟨2, ![2048, 2048]⟩ 0 32 c
          (refGelu (Host.dotGeneral (F := Ideal) Cert.ReferenceIdeal.dot_S2048x2048_S2048x2048_S2048x2048_1_0_0_1_n_n none X W)) := by
  funext i
  refine (outAt_apply _ _ c i).trans (congrArg gelu ((shares_eq X W c (i 0) (i 1)).trans ?_))
  refine congrArg _ (funext fun a => Fin.ext ?_)
  match a with
  | ⟨0, _⟩ => show 64 * c.val + (i 0).val = c.val * 64 + (i 0).val; omega
  | ⟨1, _⟩ => rfl

/-! ## The arrays after the run -/

section Run

variable (m : (ℓ : Loc nD τ sig) → Buf (Elt Ideal) ℓ) (ρ : Dev nD → PrngReg)

/-- The staged blocks are the argument arrays. -/
theorem xAt_eq (c : Dev nD) : xAt m ρ c = m ((c : Thread nD τ).loc main_arg0) := by
  refine funext fun i => congrArg (m ((c : Thread nD τ).loc main_arg0)) (funext fun a => Fin.ext ?_)
  match a with
  | ⟨0, _⟩ => show 0 * 2048 + 1 * (i 0).val = (i 0).val; omega
  | ⟨1, _⟩ => show 0 * 64 + 1 * (i 1).val = (i 1).val; omega
theorem wAt_eq (c : Dev nD) : wAt m ρ c = m ((c : Thread nD τ).loc main_arg1) := by
  refine funext fun i => congrArg (m ((c : Thread nD τ).loc main_arg1)) (funext fun a => Fin.ext ?_)
  match a with
  | ⟨0, _⟩ => show 0 * 64 + 1 * (i 0).val = (i 0).val; omega
  | ⟨1, _⟩ => show 0 * 2048 + 1 * (i 1).val = (i 1).val; omega

/-- The result array holds the computed block. -/
theorem finalA_out (c : Dev nD) : finalA m ρ c (2 : Fin 3) = outAt (xAt m ρ) (wAt m ρ) c := by
  have hw : ((cfg0.win (2 : Fin 3)).blk t0_0).view.read (Elt Ideal) (finalA m ρ c (2 : Fin 3)) = outAt (xAt m ρ) (wAt m ρ) c := by
    unfold finalA
    rw [show cfg0.N = t0_0.val + 1 from rfl, (dats m ρ 0 c).arrAt_succ (2 : Fin 3) t0_0, if_pos (flush0_2 t0_0)]
    exact View.read_write_univ _ _
  refine Eq.trans ?_ hw
  refine funext fun i => congrArg (finalA m ρ c (2 : Fin 3)) (funext fun a => Fin.ext ?_)
  match a with
  | ⟨0, _⟩ => show (i 0).val = 0 * 64 + 1 * (i 0).val; omega
  | ⟨1, _⟩ => show (i 1).val = 0 * 2048 + 1 * (i 1).val; omega

end Run

end Cert.Ring

end
-- ==== Proof.Equation.lean ====
/-
The equation: over the extended reals the kernel on its 32 devices computes the reference's result, cut by rows over them.
-/
module

public import proofs.«01_k».proof.Proof.Frames
public import proofs.«01_k».proof.Proof.Value

@[expose] public section

noncomputable section

namespace Cert.Ring

open Idealize.SL.Sem
open Idealize.ShloMosaic Idealize.ShloMosaic.TcCoe Idealize.ShloMosaic.ValueIdx

/-- The reference's printed result is the gelu of the product, entry by entry. -/
theorem ref_eq (D : FVec Ideal Cert.ReferenceIdeal.S2048x2048 .f32) :
    mulf (mulf (broadcastInDim Cert.ReferenceIdeal.S2048x2048 ![] Cert.ReferenceIdeal.Gen.bcast_S_S2048x2048 (constant Cert.ReferenceIdeal.S_ .f32 0x3F000000#32)) D)
      (addf (broadcastInDim Cert.ReferenceIdeal.S2048x2048 ![] Cert.ReferenceIdeal.Gen.bcast_S_S2048x2048 (constant Cert.ReferenceIdeal.S_ .f32 0x3F800000#32))
        (Host.tanh (mulf (broadcastInDim Cert.ReferenceIdeal.S2048x2048 ![] Cert.ReferenceIdeal.Gen.bcast_S_S2048x2048 (constant Cert.ReferenceIdeal.S_ .f32 0x3F4C422A#32))
          (addf D (mulf (broadcastInDim Cert.ReferenceIdeal.S2048x2048 ![] Cert.ReferenceIdeal.Gen.bcast_S_S2048x2048 (constant Cert.ReferenceIdeal.S_ .f32 0x3D372713#32))
            (mulf (mulf D D) D))))))
      = refGelu D := rfl

/-- What device `c`'s result array holds after the run, from the blocks it was given. -/
theorem result_eq (m : (ℓ : Loc Cert.KernelIdeal.nD Cert.KernelIdeal.τ Cert.KernelIdeal.sig) → Buf (Elt Ideal) ℓ)
    (ρ : Dev Cert.KernelIdeal.nD → PrngReg) (X W : FVec Ideal Cert.ReferenceIdeal.S2048x2048 .bf16)
    (hx : ∀ c : Dev Cert.KernelIdeal.nD, m ((c.tc : Thread Cert.KernelIdeal.nD Cert.KernelIdeal.τ).loc Cert.KernelIdeal.main_arg0) = Layout.block ⟨2, ![2048, 64]⟩ ⟨2, ![2048, 2048]⟩ 1 32 c X)
    (hw : ∀ c : Dev Cert.KernelIdeal.nD, m ((c.tc : Thread Cert.KernelIdeal.nD Cert.KernelIdeal.τ).loc Cert.KernelIdeal.main_arg1) = Layout.block ⟨2, ![64, 2048]⟩ ⟨2, ![2048, 2048]⟩ 0 32 c W)
    (c : Dev Cert.KernelIdeal.nD) :
    finalA m ρ c (2 : Fin 3) = Layout.block ⟨2, ![64, 2048]⟩ ⟨2, ![2048, 2048]⟩ 0 32 c
      (refGelu (Host.dotGeneral (F := Ideal) Cert.ReferenceIdeal.dot_S2048x2048_S2048x2048_S2048x2048_1_0_0_1_n_n none X W)) := by
  have ex : xAt m ρ = fun d => Layout.block ⟨2, ![2048, 64]⟩ ⟨2, ![2048, 2048]⟩ 1 32 d X := funext fun d => (xAt_eq m ρ d).trans (hx d)
  have ew : wAt m ρ = fun d => Layout.block ⟨2, ![64, 2048]⟩ ⟨2, ![2048, 2048]⟩ 0 32 d W := funext fun d => (wAt_eq m ρ d).trans (hw d)
  rw [finalA_out, ex, ew]
  exact outAt_eq X W c

/-- The two programs compute the same function. -/
theorem equation : Cert.algebraic_KernelIdeal_ReferenceIdeal (hKernelIdeal := Cert.KernelIdeal.Gen.facts)
    (hReferenceIdeal := Cert.ReferenceIdeal.Gen.facts) := fun m g m' g' _ hin => by
  refine ⟨refGelu (Host.dotGeneral (F := Ideal) (φ₁ := .bf16) (φ₂ := .bf16) Cert.ReferenceIdeal.dot_S2048x2048_S2048x2048_S2048x2048_1_0_0_1_n_n none
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))), ?_, ?_⟩
  · exact (θ_run (Cert.KernelIdeal.defs (F := Ideal)) _ _).mono
      (fun r (h : QC (F := Ideal) m g r ∧ r.2.sem = fun _ => 0) c =>
        ⟨(h.1 c (2 : Fin 3)).trans (result_eq m g _ _ (fun d => (hin d).1) (fun d => (hin d).2) c),
          (h.1 c (0 : Fin 3)).trans (finalA_x m g c), (h.1 c (1 : Fin 3)).trans (finalA_w m g c)⟩)
      (run_main (F := Ideal) m g)
  · exact (θ_run (Cert.ReferenceIdeal.defs (F := Ideal)) _ _).mono
      (fun _ h => ⟨(h 0).1.trans (ref_eq _), (h 0).2⟩)
      (Cert.ReferenceIdeal.Value.run (F := Ideal) m' g')

end Cert.Ring

end
-- ==== Proof.lean ====
/-
The certificate: the kernel on its mesh of 32 devices runs and restores what it must, and over the reals its result is the
reference's, cut by rows over the devices.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ring.frame_kernel,
  Cert.Ring.frame_kernelIdeal, Cert.Ring.frame_reference, trivial, Cert.Ring.equation⟩

end Cert.Proof

end
